-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_class_maxima_finite [hPre_class_maxima_finite : Cert.Pre_class_maxima_finite.Facts] (m : (ℓ : Loc Cert.KernelIdeal.nD Cert.KernelIdeal.τ Cert.KernelIdeal.sig) → Buf (Elt Ideal) ℓ) : Prop :=
  ∀ c : Dev Cert.KernelIdeal.nD,
    (Cert.Pre_class_maxima_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_class_maxima_finite [hPre_class_maxima_finite : Cert.Pre_class_maxima_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_class_maxima_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_class_maxima_finite [hKernelIdeal : Cert.KernelIdeal.Facts] [hPre_class_maxima_finite : Cert.Pre_class_maxima_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_class_maxima_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_class_maxima_finite [hReferenceIdeal : Cert.ReferenceIdeal.Facts] [hPre_class_maxima_finite : Cert.Pre_class_maxima_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_class_maxima_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_class_maxima_finite [hKernelIdeal : Cert.KernelIdeal.Facts] [hReferenceIdeal : Cert.ReferenceIdeal.Facts] [hPre_class_maxima_finite : Cert.Pre_class_maxima_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_class_maxima_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_class_maxima_finite : Cert.Pre_class_maxima_finite.Facts),
    quiescent_Kernel (hKernel := hKernel)
    ∧ quiescent_KernelIdeal (hKernelIdeal := hKernelIdeal)
    ∧ quiescent_KernelIdeal_pre_class_maxima_finite (hKernelIdeal := hKernelIdeal) (hPre_class_maxima_finite := hPre_class_maxima_finite)
    ∧ quiescent_ReferenceIdeal (hReferenceIdeal := hReferenceIdeal)
    ∧ quiescent_ReferenceIdeal_pre_class_maxima_finite (hReferenceIdeal := hReferenceIdeal) (hPre_class_maxima_finite := hPre_class_maxima_finite)
    ∧ preserves_Kernel_KernelIdeal
    ∧ algebraic_KernelIdeal_ReferenceIdeal_pre_class_maxima_finite (hKernelIdeal := hKernelIdeal) (hReferenceIdeal := hReferenceIdeal) (hPre_class_maxima_finite := hPre_class_maxima_finite)
-- ==== Pre_class_maxima_finite.lean ====
abbrev S16x255x64x64 : Shape := ⟨4, ![16, 255, 64, 64]⟩
abbrev S_ : Shape := ⟨0, ![]⟩
abbrev S48x85x4096 : Shape := ⟨3, ![48, 85, 4096]⟩
abbrev S48x80x4096 : Shape := ⟨3, ![48, 80, 4096]⟩
abbrev S48x4096 : Shape := ⟨2, ![48, 4096]⟩

class Facts : Prop where
  shapeCasts_S16x255x64x64_S48x85x4096 : S16x255x64x64.ShapeCasts S48x85x4096
  slices_S48x85x4096_S48x80x4096_0_5_0 : S48x85x4096.Slices ![0, 5, 0] S48x80x4096
  reducesTo_S48x80x4096_S48x4096_d1 : S48x80x4096.ReducesTo [1] S48x4096
  h_S_ : 0 < S_.numel
  bcast_S_S48x4096 : S_.BroadcastsInDim S48x4096 (![] : Fin 0 → Fin S48x4096.rank)

variable [Facts]

def fn {F : FTy → Type} [FloatOps F] (main_arg0 : FVec F S16x255x64x64 .f32) (main_arg1 : FVec F S_ .f32) : IVec S48x4096 1 :=
  let main_v0 : FVec F S48x85x4096 .f32 := shapeCast S48x85x4096 main_arg0 shapeCasts_S16x255x64x64_S48x85x4096
  let main_v1 : FVec F S48x80x4096 .f32 := (extractStridedSlice S48x80x4096 ![0, 5, 0] · slices_S48x85x4096_S48x80x4096_0_5_0) main_v0
  let main_cst : FVec F S_ .f32 := constant S_ .f32 0xFF800000#32
  let main_v2 : FVec F S48x4096 .f32 := (fun x v => Host.reduce FloatOps.maximumf x v reducesTo_S48x80x4096_S48x4096_d1 h_S_) main_v1 main_cst
  let main_cst_0 : FVec F S_ .f32 := constant S_ .f32 0xFF800000#32
  let main_v3 : FVec F S48x4096 .f32 := broadcastInDim S48x4096 ![] bcast_S_S48x4096 main_cst_0
  let main_v4 : IVec S48x4096 1 := cmpf .ogt main_v2 main_v3
  let main_cst_1 : FVec F S_ .f32 := constant S_ .f32 0x7F800000#32
  let main_v5 : FVec F S48x4096 .f32 := broadcastInDim S48x4096 ![] bcast_S_S48x4096 main_cst_1
  let main_v6 : IVec S48x4096 1 := cmpf .olt main_v2 main_v5
  let main_v7 : IVec S48x4096 1 := andi main_v4 main_v6
  main_v7
-- ==== Kernel.lean ====
abbrev S16x255x64x64 : Shape := ⟨4, ![16, 255, 64, 64]⟩
abbrev S_ : Shape := ⟨0, ![]⟩
abbrev S48x85x4096 : Shape := ⟨3, ![48, 85, 4096]⟩
abbrev S1x1 : Shape := ⟨2, ![1, 1]⟩
abbrev S196608x6 : Shape := ⟨2, ![196608, 6]⟩
abbrev S48x1x4096 : Shape := ⟨3, ![48, 1, 4096]⟩
abbrev S1x85x4096 : Shape := ⟨3, ![1, 85, 4096]⟩
abbrev S4096x6 : Shape := ⟨2, ![4096, 6]⟩
abbrev S1x1x4096 : Shape := ⟨3, ![1, 1, 4096]⟩
abbrev S85x4096 : Shape := ⟨2, ![85, 4096]⟩
abbrev S8x4096 : Shape := ⟨2, ![8, 4096]⟩
abbrev S1x4096 : Shape := ⟨2, ![1, 4096]⟩
abbrev S4096 : Shape := ⟨1, ![4096]⟩
abbrev S4096x8 : Shape := ⟨2, ![4096, 8]⟩
abbrev S196608 : Shape := ⟨1, ![196608]⟩

abbrev nBuf : Space → Nat
  | .hbm => 7
  | .vmem => 6
  | .smem => 1
  | _ => 0

abbrev bufTy : (tb : Table) → Fin (tcTables nBuf tb) → BufTy
  | .hbm, ⟨0, _⟩ => ⟨S16x255x64x64, .f32⟩
  | .hbm, ⟨1, _⟩ => ⟨S_, .f32⟩
  | .hbm, ⟨2, _⟩ => ⟨S48x85x4096, .f32⟩
  | .hbm, ⟨3, _⟩ => ⟨S1x1, .f32⟩
  | .hbm, ⟨4, _⟩ => ⟨S196608x6, .f32⟩
  | .hbm, ⟨5, _⟩ => ⟨S48x1x4096, .i32⟩
  | .hbm, ⟨6, _⟩ => ⟨S196608, .i32⟩
  | .local _ .vmem, ⟨0, _⟩ => ⟨S1x85x4096, .f32⟩
  | .local _ .vmem, ⟨1, _⟩ => ⟨S1x85x4096, .f32⟩
  | .local _ .vmem, ⟨2, _⟩ => ⟨S4096x6, .f32⟩
  | .local _ .vmem, ⟨3, _⟩ => ⟨S4096x6, .f32⟩
  | .local _ .vmem, ⟨4, _⟩ => ⟨S1x1x4096, .i32⟩
  | .local _ .vmem, ⟨5, _⟩ => ⟨S1x1x4096, .i32⟩
  | .local _ .smem, ⟨0, _⟩ => ⟨S1x1, .f32⟩
  | _, _ => ⟨S16x255x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x85x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x255x64x64 : Shape := ⟨4, ![16, 255, 64, 64]⟩
abbrev S_ : Shape := ⟨0, ![]⟩
abbrev S6 : Shape := ⟨1, ![6]⟩
abbrev S48x85x4096 : Shape := ⟨3, ![48, 85, 4096]⟩
abbrev S85x48x4096 : Shape := ⟨3, ![85, 48, 4096]⟩
abbrev S85x196608 : Shape := ⟨2, ![85, 196608]⟩
abbrev S64 : Shape := ⟨1, ![64]⟩
abbrev S1x64 : Shape := ⟨2, ![1, 64]⟩
abbrev S1x1x1x64 : Shape := ⟨4, ![1, 1, 1, 64]⟩
abbrev S64x1x1x64 : Shape := ⟨4, ![64, 1, 1, 64]⟩
abbrev S64x64 : Shape := ⟨2, ![64, 64]⟩
abbrev S4096 : Shape := ⟨1, ![4096]⟩
abbrev S1x4096 : Shape := ⟨2, ![1, 4096]⟩
abbrev S48x4096 : Shape := ⟨2, ![48, 4096]⟩
abbrev S196608 : Shape := ⟨1, ![196608]⟩
abbrev S3x2 : Shape := ⟨2, ![3, 2]⟩
abbrev S3x1 : Shape := ⟨2, ![3, 1]⟩
abbrev S3 : Shape := ⟨1, ![3]⟩
abbrev S1x3 : Shape := ⟨2, ![1, 3]⟩
abbrev S16x3 : Shape := ⟨2, ![16, 3]⟩
abbrev S48 : Shape := ⟨1, ![48]⟩
abbrev S1x196608 : Shape := ⟨2, ![1, 196608]⟩
abbrev S80x196608 : Shape := ⟨2, ![80, 196608]⟩
abbrev S196608x80 : Shape := ⟨2, ![196608, 80]⟩
abbrev S196608x1 : Shape := ⟨2, ![196608, 1]⟩
abbrev S196608x6 : Shape := ⟨2, ![196608, 6]⟩

abbrev nBuf : Space → Nat
  | .hbm => 134
  | .vmem => 0
  | .smem => 0
  | _ => 0

abbrev hbmTy0_0 (i : Nat) : BufTy := match i % 128 with
  | 0 => ⟨S16x255x64x64, .f32⟩
  | 1 => ⟨S_, .f32⟩
  | 2 => ⟨S6, .f32⟩
  | 3 => ⟨S48x85x4096, .f32⟩
  | 4 => ⟨S85x48x4096, .f32⟩
  | 5 => ⟨S85x196608, .f32⟩
  | 6 => ⟨S64, .f32⟩
  | 7 => ⟨S1x64, .f32⟩
  | 8 => ⟨S1x1x1x64, .f32⟩
  | 9 => ⟨S64x1x1x64, .f32⟩
  | 10 => ⟨S64x64, .f32⟩
  | 11 => ⟨S4096, .f32⟩
  | 12 => ⟨S1x4096, .f32⟩
  | 13 => ⟨S48x4096, .f32⟩
  | 14 => ⟨S196608, .f32⟩
  | 15 => ⟨S64, .f32⟩
  | 16 => ⟨S1x64, .f32⟩
  | 17 => ⟨S1x1x1x64, .f32⟩
  | 18 => ⟨S64x1x1x64, .f32⟩
  | 19 => ⟨S64x64, .f32⟩
  | 20 => ⟨S64x64, .f32⟩
  | 21 => ⟨S4096, .f32⟩
  | 22 => ⟨S1x4096, .f32⟩
  | 23 => ⟨S48x4096, .f32⟩
  | 24 => ⟨S196608, .f32⟩
  | 25 => ⟨S3x2, .f32⟩
  | 26 => ⟨S3x1, .f32⟩
  | 27 => ⟨S3, .f32⟩
  | 28 => ⟨S1x3, .f32⟩
  | 29 => ⟨S16x3, .f32⟩
  | 30 => ⟨S48, .f32⟩
  | 31 => ⟨S48x4096, .f32⟩
  | 32 => ⟨S196608, .f32⟩
  | 33 => ⟨S3x1, .f32⟩
  | 34 => ⟨S3, .f32⟩
  | 35 => ⟨S1x3, .f32⟩
  | 36 => ⟨S16x3, .f32⟩
  | 37 => ⟨S48, .f32⟩
  | 38 => ⟨S48x4096, .f32⟩
  | 39 => ⟨S196608, .f32⟩
  | 40 => ⟨S1x196608, .f32⟩
  | 41 => ⟨S196608, .f32⟩
  | 42 => ⟨S196608, .f32⟩
  | 43 => ⟨S196608, .f32⟩
  | 44 => ⟨S_, .f32⟩
  | 45 => ⟨S196608, .f32⟩
  | 46 => ⟨S196608, .f32⟩
  | 47 => ⟨S_, .f32⟩
  | 48 => ⟨S196608, .f32⟩
  | 49 => ⟨S196608, .f32⟩
  | 50 => ⟨S196608, .f32⟩
  | 51 => ⟨S1x196608, .f32⟩
  | 52 => ⟨S196608, .f32⟩
  | 53 => ⟨S196608, .f32⟩
  | 54 => ⟨S196608, .f32⟩
  | 55 => ⟨S_, .f32⟩
  | 56 => ⟨S196608, .f32⟩
  | 57 => ⟨S196608, .f32⟩
  | 58 => ⟨S_, .f32⟩
  | 59 => ⟨S196608, .f32⟩
  | 60 => ⟨S196608, .f32⟩
  | 61 => ⟨S196608, .f32⟩
  | 62 => ⟨S1x196608, .f32⟩
  | 63 => ⟨S196608, .f32⟩
  | 64 => ⟨S196608, .f32⟩
  | 65 => ⟨S196608, .f32⟩
  | 66 => ⟨S1x196608, .f32⟩
  | 67 => ⟨S196608, .f32⟩
  | 68 => ⟨S196608, .f32⟩
  | 69 => ⟨S196608, .f32⟩
  | 70 => ⟨S1x196608, .f32⟩
  | 71 => ⟨S196608, .f32⟩
  | 72 => ⟨S196608, .f32⟩
  | 73 => ⟨S196608, .f32⟩
  | 74 => ⟨S_, .f32⟩
  | 75 => ⟨S196608, .f32⟩
  | 76 => ⟨S196608, .f32⟩
  | 77 => ⟨S_, .f32⟩
  | 78 => ⟨S196608, .f32⟩
  | 79 => ⟨S196608, .f32⟩
  | 80 => ⟨S80x196608, .f32⟩
  | 81 => ⟨S196608x80, .f32⟩
  | 82 => ⟨S_, .f32⟩
  | 83 => ⟨S196608, .f32⟩
  | 84 => ⟨S_, .f32⟩
  | 85 => ⟨S196608, .f32⟩
  | 86 => ⟨S196608, .f32⟩
  | 87 => ⟨S196608x1, .f32⟩
  | 88 => ⟨S196608x80, .f32⟩
  | 89 => ⟨S196608x80, .f32⟩
  | 90 => ⟨S196608x80, .f32⟩
  | 91 => ⟨S_, .f32⟩
  | 92 => ⟨S196608, .f32⟩
  | 93 => ⟨S196608x1, .f32⟩
  | 94 => ⟨S196608x80, .f32⟩
  | 95 => ⟨S196608x80, .f32⟩
  | 96 => ⟨S_, .f32⟩
  | 97 => ⟨S196608, .f32⟩
  | 98 => ⟨S196608x80, .i32⟩
  | 99 => ⟨S_, .f32⟩
  | 100 => ⟨S_, .i32⟩
  | 101 => ⟨S196608, .f32⟩
  | 102 => ⟨S196608, .i32⟩
  | 103 => ⟨S_, .f32⟩
  | 104 => ⟨S196608, .f32⟩
  | 105 => ⟨S196608, .f32⟩
  | 106 => ⟨S_, .f32⟩
  | 107 => ⟨S196608, .f32⟩
  | 108 => ⟨S196608, .f32⟩
  | 109 => ⟨S_, .f32⟩
  | 110 => ⟨S196608, .f32⟩
  | 111 => ⟨S196608, .f32⟩
  | 112 => ⟨S_, .f32⟩
  | 113 => ⟨S196608, .f32⟩
  | 114 => ⟨S196608, .f32⟩
  | 115 => ⟨S196608x1, .f32⟩
  | 116 => ⟨S196608x1, .f32⟩
  | 117 => ⟨S196608x1, .f32⟩
  | 118 => ⟨S196608x1, .f32⟩
  | 119 => ⟨S196608x1, .f32⟩
  | 120 => ⟨S196608x1, .f32⟩
  | 121 => ⟨S196608x6, .f32⟩
  | 122 => ⟨S196608, .f32⟩
  | 123 => ⟨S196608, .i1⟩
  | 124 => ⟨S196608x1, .i1⟩
  | 125 => ⟨S_, .f32⟩
  | 126 => ⟨S_, .f32⟩
  | 127 => ⟨S196608x6, .i1⟩
  | _ => ⟨S16x255x64x64, .f32⟩

abbrev hbmTy0_1 (i : Nat) : BufTy := match i % 128 with
  | 0 => ⟨S196608x6, .f32⟩
  | 1 => ⟨S196608x6, .f32⟩
  | 2 => ⟨S_, .i32⟩
  | 3 => ⟨S_, .i32⟩
  | 4 => ⟨S196608, .i32⟩
  | 5 => ⟨S196608, .i32⟩
  | _ => ⟨S16x255x64x64, .f32⟩

abbrev hbmTy (i : Nat) : BufTy := match i / 128 with
  | 0 => hbmTy0_0 i
  | 1 => hbmTy0_1 i
  | _ => ⟨S16x255x64x64, .f32⟩

abbrev bufTy : (tb : Table) → Fin (tcTables nBuf tb) → BufTy
  | .hbm, ⟨i, _⟩ => hbmTy i
  | _, _ => ⟨S16x255x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_0 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_4 : Ref sig .tc := ⟨.hbm, 74, rfl⟩
abbrev main_v67 : Ref sig .tc := ⟨.hbm, 75, rfl⟩
abbrev main_v68 : Ref sig .tc := ⟨.hbm, 76, rfl⟩
abbrev main_cst_5 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_6 : Ref sig .tc := ⟨.hbm, 82, rfl⟩
abbrev main_v73 : Ref sig .tc := ⟨.hbm, 83, rfl⟩
abbrev main_cst_7 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_8 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_9 : Ref sig .tc := ⟨.hbm, 96, rfl⟩
abbrev main_v84 : Ref sig .tc := ⟨.hbm, 97, rfl⟩
abbrev main_call0_v0 : Ref sig .tc := ⟨.hbm, 98, rfl⟩
abbrev main_call0_cst : Ref sig .tc := ⟨.hbm, 99, rfl⟩
abbrev main_call0_c : Ref sig .tc := ⟨.hbm, 100, rfl⟩
abbrev main_call0_v1_0 : Ref sig .tc := ⟨.hbm, 101, rfl⟩
abbrev main_v85 : Ref sig .tc := ⟨.hbm, 102, rfl⟩
abbrev main_cst_10 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_cst_12 : Ref sig .tc := ⟨.hbm, 109, rfl⟩
abbrev main_v90 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_14 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v104 : Ref sig .tc := ⟨.hbm, 129, rfl⟩
abbrev main_c : Ref sig .tc := ⟨.hbm, 130, rfl⟩
abbrev main_call2_v0 : Ref sig .tc := ⟨.hbm, 131, rfl⟩
abbrev main_call2_v1 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== Proof.RefRun.lean ====
/-
  The reference's run. `@main` is a straight line of host operations once its three calls are written out; the line is
  cut here into twenty-one short stages. Every final memory holds, at every buffer, the fold of the stages over the
  launch contents. From it: the frame of the reference.
-/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Quiescent
public import Idealize.ShloMosaic.Lib.Claim

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- Stage 1: 4 operations, up to `main_v2`. -/
def s1 : List (HloOp τ sig (Elt F)) :=
  [ nullary main_cst (fun i => FloatOps.ofBits .f32 (lit0 (S6.rowMajor i))),
    reshape main_arg0 main_v0 (rfl : (.f32 : EltTy) = .f32) shapeCasts_S16x255x64x64_S48x85x4096,
    unary main_v0 main_v1 ((transpose S85x48x4096 [1, 0, 2] · transposes_S48x85x4096_S85x48x4096_1_0_2) : (⟨S48x85x4096, .f32⟩ : BufTy).Contents (Elt F) → (⟨S85x48x4096, .f32⟩ : BufTy).Contents (Elt F)),
    reshape main_v1 main_v2 (rfl : (.f32 : EltTy) = .f32) shapeCasts_S85x48x4096_S85x196608 ]

/-- What stage 1 writes. -/
def w1 : List (Ref sig .tc) := [main_cst, main_v0, main_v1, main_v2]

theorem keep1 (V : Valuation τ sig (Elt F)) {r : Ref sig .tc} (hr : r ∉ w1) :
    after s1 V (no_index (Proc.devRef .tc r)) = V (Proc.devRef .tc r) := after_unwritten w1 rfl hr V

theorem sub1 : (s1 : List (HloOp τ sig (Elt F))).Forall fun op => op.bufs ⊆ tcRefs τ sig :=
  ⟨nullary_bufs_sub .., reshape_bufs_sub .., unary_bufs_sub .., reshape_bufs_sub ..⟩

theorem fresh1 : (s1 : List (HloOp τ sig (Elt F))).Forall fun op => op.fresh = ∅ := forall_fresh_of_map rfl

/-- Stage 2: 9 operations, up to `main_v11`. -/
def s2 : List (HloOp τ sig (Elt F)) :=
  [ nullary main_v3 (sitofp .f32 (iotaInDim S64 32 0)),
    unary main_v3 main_v4 (broadcastInDim S1x64 ![1] bcast_S64_S1x64_1 : (⟨S64, .f32⟩ : BufTy).Contents (Elt F) → (⟨S1x64, .f32⟩ : BufTy).Contents (Elt F)),
    reshape main_v4 main_v5 (rfl : (.f32 : EltTy) = .f32) shapeCasts_S1x64_S1x1x1x64,
    unary main_v5 main_v6 (broadcastInDim S64x1x1x64 ![0, 1, 2, 3] bcast_S1x1x1x64_S64x1x1x64_0_1_2_3 : (⟨S1x1x1x64, .f32⟩ : BufTy).Contents (Elt F) → (⟨S64x1x1x64, .f32⟩ : BufTy).Contents (Elt F)),
    reshape main_v6 main_v7 (rfl : (.f32 : EltTy) = .f32) shapeCasts_S64x1x1x64_S64x64,
    reshape main_v7 main_v8 (rfl : (.f32 : EltTy) = .f32) shapeCasts_S64x64_S4096,
    reshape main_v8 main_v9 (rfl : (.f32 : EltTy) = .f32) shapeCasts_S4096_S1x4096,
    unary main_v9 main_v10 (broadcastInDim S48x4096 ![0, 1] bcast_S1x4096_S48x4096_0_1 : (⟨S1x4096, .f32⟩ : BufTy).Contents (Elt F) → (⟨S48x4096, .f32⟩ : BufTy).Contents (Elt F)),
    reshape main_v10 main_v11 (rfl : (.f32 : EltTy) = .f32) shapeCasts_S48x4096_S196608 ]

/-- What stage 2 writes. -/
def w2 : List (Ref sig .tc) := [main_v3, main_v4, main_v5, main_v6, main_v7, main_v8, main_v9, main_v10, main_v11]

theorem keep2 (V : Valuation τ sig (Elt F)) {r : Ref sig .tc} (hr : r ∉ w2) :
    after s2 V (no_index (Proc.devRef .tc r)) = V (Proc.devRef .tc r) := after_unwritten w2 rfl hr V

theorem sub2 : (s2 : List (HloOp τ sig (Elt F))).Forall fun op => op.bufs ⊆ tcRefs τ sig :=
  ⟨nullary_bufs_sub .., unary_bufs_sub .., reshape_bufs_sub .., unary_bufs_sub .., reshape_bufs_sub .., reshape_bufs_sub .., reshape_bufs_sub .., unary_bufs_sub .., reshape_bufs_sub ..⟩

theorem fresh2 : (s2 : List (HloOp τ sig (Elt F))).Forall fun op => op.fresh = ∅ := forall_fresh_of_map rfl

/-- Stage 3: 10 operations, up to `main_v21`. -/
def s3 : List (HloOp τ sig (Elt F)) :=
  [ nullary main_v12 (sitofp .f32 (iotaInDim S64 32 0)),
    unary main_v12 main_v13 (broadcastInDim S1x64 ![1] bcast_S64_S1x64_1 : (⟨S64, .f32⟩ : BufTy).Contents (Elt F) → (⟨S1x64, .f32⟩ : BufTy).Contents (Elt F)),
    reshape main_v13 main_v14 (rfl : (.f32 : EltTy) = .f32) shapeCasts_S1x64_S1x1x1x64,
    unary main_v14 main_v15 (broadcastInDim S64x1x1x64 ![0, 1, 2, 3] bcast_S1x1x1x64_S64x1x1x64_0_1_2_3 : (⟨S1x1x1x64, .f32⟩ : BufTy).Contents (Elt F) → (⟨S64x1x1x64, .f32⟩ : BufTy).Contents (Elt F)),
    reshape main_v15 main_v16 (rfl : (.f32 : EltTy) = .f32) shapeCasts_S64x1x1x64_S64x64,
    unary main_v16 main_v17 ((transpose S64x64 [1, 0] · transposes_S64x64_S64x64_1_0) : (⟨S64x64, .f32⟩ : BufTy).Contents (Elt F) → (⟨S64x64, .f32⟩ : BufTy).Contents (Elt F)),
    reshape main_v17 main_v18 (rfl : (.f32 : EltTy) = .f32) shapeCasts_S64x64_S4096,
    reshape main_v18 main_v19 (rfl : (.f32 : EltTy) = .f32) shapeCasts_S4096_S1x4096,
    unary main_v19 main_v20 (broadcastInDim S48x4096 ![0, 1] bcast_S1x4096_S48x4096_0_1 : (⟨S1x4096, .f32⟩ : BufTy).Contents (Elt F) → (⟨S48x4096, .f32⟩ : BufTy).Contents (Elt F)),
    reshape main_v20 main_v21 (rfl : (.f32 : EltTy) = .f32) shapeCasts_S48x4096_S196608 ]

/-- What stage 3 writes. -/
def w3 : List (Ref sig .tc) := [main_v12, main_v13, main_v14, main_v15, main_v16, main_v17, main_v18, main_v19, main_v20, main_v21]

theorem keep3 (V : Valuation τ sig (Elt F)) {r : Ref sig .tc} (hr : r ∉ w3) :
    after s3 V (no_index (Proc.devRef .tc r)) = V (Proc.devRef .tc r) := after_unwritten w3 rfl hr V

theorem sub3 : (s3 : List (HloOp τ sig (Elt F))).Forall fun op => op.bufs ⊆ tcRefs τ sig :=
  ⟨nullary_bufs_sub .., unary_bufs_sub .., reshape_bufs_sub .., unary_bufs_sub .., reshape_bufs_sub .., unary_bufs_sub .., reshape_bufs_sub .., reshape_bufs_sub .., unary_bufs_sub .., reshape_bufs_sub ..⟩

theorem fresh3 : (s3 : List (HloOp τ sig (Elt F))).Forall fun op => op.fresh = ∅ := forall_fresh_of_map rfl

/-- Stage 4: 8 operations, up to `main_v29`. -/
def s4 : List (HloOp τ sig (Elt F)) :=
  [ reshape main_cst main_v22 (rfl : (.f32 : EltTy) = .f32) shapeCasts_S6_S3x2,
    unary main_v22 main_v23 ((extractStridedSlice S3x1 ![0, 0] · slices_S3x2_S3x1_0_0) : (⟨S3x2, .f32⟩ : BufTy).Contents (Elt F) → (⟨S3x1, .f32⟩ : BufTy).Contents (Elt F)),
    reshape main_v23 main_v24 (rfl : (.f32 : EltTy) = .f32) shapeCasts_S3x1_S3,
    reshape main_v24 main_v25 (rfl : (.f32 : EltTy) = .f32) shapeCasts_S3_S1x3,
    unary main_v25 main_v26 (broadcastInDim S16x3 ![0, 1] bcast_S1x3_S16x3_0_1 : (⟨S1x3, .f32⟩ : BufTy).Contents (Elt F) → (⟨S16x3, .f32⟩ : BufTy).Contents (Elt F)),
    reshape main_v26 main_v27 (rfl : (.f32 : EltTy) = .f32) shapeCasts_S16x3_S48,
    unary main_v27 main_v28 (broadcastInDim S48x4096 ![0] bcast_S48_S48x4096_0 : (⟨S48, .f32⟩ : BufTy).Contents (Elt F) → (⟨S48x4096, .f32⟩ : BufTy).Contents (Elt F)),
    reshape main_v28 main_v29 (rfl : (.f32 : EltTy) = .f32) shapeCasts_S48x4096_S196608 ]

/-- What stage 4 writes. -/
def w4 : List (Ref sig .tc) := [main_v22, main_v23, main_v24, main_v25, main_v26, main_v27, main_v28, main_v29]

theorem keep4 (V : Valuation τ sig (Elt F)) {r : Ref sig .tc} (hr : r ∉ w4) :
    after s4 V (no_index (Proc.devRef .tc r)) = V (Proc.devRef .tc r) := after_unwritten w4 rfl hr V

theorem sub4 : (s4 : List (HloOp τ sig (Elt F))).Forall fun op => op.bufs ⊆ tcRefs τ sig :=
  ⟨reshape_bufs_sub .., unary_bufs_sub .., reshape_bufs_sub .., reshape_bufs_sub .., unary_bufs_sub .., reshape_bufs_sub .., unary_bufs_sub .., reshape_bufs_sub ..⟩

theorem fresh4 : (s4 : List (HloOp τ sig (Elt F))).Forall fun op => op.fresh = ∅ := forall_fresh_of_map rfl

/-- Stage 5: 7 operations, up to `main_v36`. -/
def s5 : List (HloOp τ sig (Elt F)) :=
  [ unary main_v22 main_v30 ((extractStridedSlice S3x1 ![0, 1] · slices_S3x2_S3x1_0_1) : (⟨S3x2, .f32⟩ : BufTy).Contents (Elt F) → (⟨S3x1, .f32⟩ : BufTy).Contents (Elt F)),
    reshape main_v30 main_v31 (rfl : (.f32 : EltTy) = .f32) shapeCasts_S3x1_S3,
    reshape main_v31 main_v32 (rfl : (.f32 : EltTy) = .f32) shapeCasts_S3_S1x3,
    unary main_v32 main_v33 (broadcastInDim S16x3 ![0, 1] bcast_S1x3_S16x3_0_1 : (⟨S1x3, .f32⟩ : BufTy).Contents (Elt F) → (⟨S16x3, .f32⟩ : BufTy).Contents (Elt F)),
    reshape main_v33 main_v34 (rfl : (.f32 : EltTy) = .f32) shapeCasts_S16x3_S48,
    unary main_v34 main_v35 (broadcastInDim S48x4096 ![0] bcast_S48_S48x4096_0 : (⟨S48, .f32⟩ : BufTy).Contents (Elt F) → (⟨S48x4096, .f32⟩ : BufTy).Contents (Elt F)),
    reshape main_v35 main_v36 (rfl : (.f32 : EltTy) = .f32) shapeCasts_S48x4096_S196608 ]

/-- What stage 5 writes. -/
def w5 : List (Ref sig .tc) := [main_v30, main_v31, main_v32, main_v33, main_v34, main_v35, main_v36]

theorem keep5 (V : Valuation τ sig (Elt F)) {r : Ref sig .tc} (hr : r ∉ w5) :
    after s5 V (no_index (Proc.devRef .tc r)) = V (Proc.devRef .tc r) := after_unwritten w5 rfl hr V

theorem sub5 : (s5 : List (HloOp τ sig (Elt F))).Forall fun op => op.bufs ⊆ tcRefs τ sig :=
  ⟨unary_bufs_sub .., reshape_bufs_sub .., reshape_bufs_sub .., unary_bufs_sub .., reshape_bufs_sub .., unary_bufs_sub .., reshape_bufs_sub ..⟩

theorem fresh5 : (s5 : List (HloOp τ sig (Elt F))).Forall fun op => op.fresh = ∅ := forall_fresh_of_map rfl

/-- Stage 6: 11 operations, up to `main_v45`. -/
def s6 : List (HloOp τ sig (Elt F)) :=
  [ unary main_v2 main_v37 ((extractStridedSlice S1x196608 ![0, 0] · slices_S85x196608_S1x196608_0_0) : (⟨S85x196608, .f32⟩ : BufTy).Contents (Elt F) → (⟨S1x196608, .f32⟩ : BufTy).Contents (Elt F)),
    reshape main_v37 main_v38 (rfl : (.f32 : EltTy) = .f32) shapeCasts_S1x196608_S196608,
    unary main_v38 main_v39 (Host.negf : (⟨S196608, .f32⟩ : BufTy).Contents (Elt F) → (⟨S196608, .f32⟩ : BufTy).Contents (Elt F)),
    unary main_v39 main_v40 (Host.exp : (⟨S196608, .f32⟩ : BufTy).Contents (Elt F) → (⟨S196608, .f32⟩ : BufTy).Contents (Elt F)),
    nullary main_cst_0 (constant S_ .f32 0x3F800000#32),
    unary main_cst_0 main_v41 (broadcastInDim S196608 ![] bcast_S_S196608 : (⟨S_, .f32⟩ : BufTy).Contents (Elt F) → (⟨S196608, .f32⟩ : BufTy).Contents (Elt F)),
    binary main_v41 main_v40 main_v42 (addf : (⟨S196608, .f32⟩ : BufTy).Contents (Elt F) → (⟨S196608, .f32⟩ : BufTy).Contents (Elt F) → (⟨S196608, .f32⟩ : BufTy).Contents (Elt F)),
    nullary main_cst_1 (constant S_ .f32 0x3F800000#32),
    unary main_cst_1 main_v43 (broadcastInDim S196608 ![] bcast_S_S196608 : (⟨S_, .f32⟩ : BufTy).Contents (Elt F) → (⟨S196608, .f32⟩ : BufTy).Contents (Elt F)),
    binary main_v43 main_v42 main_v44 (Host.divf : (⟨S196608, .f32⟩ : BufTy).Contents (Elt F) → (⟨S196608, .f32⟩ : BufTy).Contents (Elt F) → (⟨S196608, .f32⟩ : BufTy).Contents (Elt F)),
    binary main_v44 main_v11 main_v45 (addf : (⟨S196608, .f32⟩ : BufTy).Contents (Elt F) → (⟨S196608, .f32⟩ : BufTy).Contents (Elt F) → (⟨S196608, .f32⟩ : BufTy).Contents (Elt F)) ]

/-- What stage 6 writes. -/
def w6 : List (Ref sig .tc) := [main_v37, main_v38, main_v39, main_v40, main_cst_0, main_v41, main_v42, main_cst_1, main_v43, main_v44, main_v45]

theorem keep6 (V : Valuation τ sig (Elt F)) {r : Ref sig .tc} (hr : r ∉ w6) :
    after s6 V (no_index (Proc.devRef .tc r)) = V (Proc.devRef .tc r) := after_unwritten w6 rfl hr V

theorem sub6 : (s6 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub ..⟩

theorem fresh6 : (s6 : List (HloOp τ sig (Elt F))).Forall fun op => op.fresh = ∅ := forall_fresh_of_map rfl

/-- Stage 7: 11 operations, up to `main_v54`. -/
def s7 : List (HloOp τ sig (Elt F)) :=
  [ unary main_v2 main_v46 ((extractStridedSlice S1x196608 ![1, 0] · slices_S85x196608_S1x196608_1_0) : (⟨S85x196608, .f32⟩ : BufTy).Contents (Elt F) → (⟨S1x196608, .f32⟩ : BufTy).Contents (Elt F)),
    reshape main_v46 main_v47 (rfl : (.f32 : EltTy) = .f32) shapeCasts_S1x196608_S196608,
    unary main_v47 main_v48 (Host.negf : (⟨S196608, .f32⟩ : BufTy).Contents (Elt F) → (⟨S196608, .f32⟩ : BufTy).Contents (Elt F)),
    unary main_v48 main_v49 (Host.exp : (⟨S196608, .f32⟩ : BufTy).Contents (Elt F) → (⟨S196608, .f32⟩ : BufTy).Contents (Elt F)),
    nullary main_cst_2 (constant S_ .f32 0x3F800000#32),
    unary main_cst_2 main_v50 (broadcastInDim S196608 ![] bcast_S_S196608 : (⟨S_, .f32⟩ : BufTy).Contents (Elt F) → (⟨S196608, .f32⟩ : BufTy).Contents (Elt F)),
    binary main_v50 main_v49 main_v51 (addf : (⟨S196608, .f32⟩ : BufTy).Contents (Elt F) → (⟨S196608, .f32⟩ : BufTy).Contents (Elt F) → (⟨S196608, .f32⟩ : BufTy).Contents (Elt F)),
    nullary main_cst_3 (constant S_ .f32 0x3F800000#32),
    unary main_cst_3 main_v52 (broadcastInDim S196608 ![] bcast_S_S196608 : (⟨S_, .f32⟩ : BufTy).Contents (Elt F) → (⟨S196608, .f32⟩ : BufTy).Contents (Elt F)),
    binary main_v52 main_v51 main_v53 (Host.divf : (⟨S196608, .f32⟩ : BufTy).Contents (Elt F) → (⟨S196608, .f32⟩ : BufTy).Contents (Elt F) → (⟨S196608, .f32⟩ : BufTy).Contents (Elt F)),
    binary main_v53 main_v21 main_v54 (addf : (⟨S196608, .f32⟩ : BufTy).Contents (Elt F) → (⟨S196608, .f32⟩ : BufTy).Contents (Elt F) → (⟨S196608, .f32⟩ : BufTy).Contents (Elt F)) ]

/-- What stage 7 writes. -/
def w7 : List (Ref sig .tc) := [main_v46, main_v47, main_v48, main_v49, main_cst_2, main_v50, main_v51, main_cst_3, main_v52, main_v53, main_v54]

theorem keep7 (V : Valuation τ sig (Elt F)) {r : Ref sig .tc} (hr : r ∉ w7) :
    after s7 V (no_index (Proc.devRef .tc r)) = V (Proc.devRef .tc r) := after_unwritten w7 rfl hr V

theorem sub7 : (s7 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub .., binary_bufs_sub ..⟩

theorem fresh7 : (s7 : List (HloOp τ sig (Elt F))).Forall fun op => op.fresh = ∅ := forall_fresh_of_map rfl

/-- Stage 8: 4 operations, up to `main_v58`. -/
def s8 : List (HloOp τ sig (Elt F)) :=
  [ unary main_v2 main_v55 ((extractStridedSlice S1x196608 ![2, 0] · slices_S85x196608_S1x196608_2_0) : (⟨S85x196608, .f32⟩ : BufTy).Contents (Elt F) → (⟨S1x196608, .f32⟩ : BufTy).Contents (Elt F)),
    reshape main_v55 main_v56 (rfl : (.f32 : EltTy) = .f32) shapeCasts_S1x196608_S196608,
    unary main_v56 main_v57 (Host.exp : (⟨S196608, .f32⟩ : BufTy).Contents (Elt F) → (⟨S196608, .f32⟩ : BufTy).Contents (Elt F)),
    binary main_v57 main_v29 main_v58 (mulf : (⟨S196608, .f32⟩ : BufTy).Contents (Elt F) → (⟨S196608, .f32⟩ : BufTy).Contents (Elt F) → (⟨S196608, .f32⟩ : BufTy).Contents (Elt F)) ]

/-- What stage 8 writes. -/
def w8 : List (Ref sig .tc) := [main_v55, main_v56, main_v57, main_v58]

theorem keep8 (V : Valuation τ sig (Elt F)) {r : Ref sig .tc} (hr : r ∉ w8) :
    after s8 V (no_index (Proc.devRef .tc r)) = V (Proc.devRef .tc r) := after_unwritten w8 rfl hr V

theorem sub8 : (s8 : List (HloOp τ sig (Elt F))).Forall fun op => op.bufs ⊆ tcRefs τ sig :=
  ⟨unary_bufs_sub .., reshape_bufs_sub .., unary_bufs_sub .., binary_bufs_sub ..⟩

theorem fresh8 : (s8 : List (HloOp τ sig (Elt F))).Forall fun op => op.fresh = ∅ := forall_fresh_of_map rfl

/-- Stage 9: 4 operations, up to `main_v62`. -/
def s9 : List (HloOp τ sig (Elt F)) :=
  [ unary main_v2 main_v59 ((extractStridedSlice S1x196608 ![3, 0] · slices_S85x196608_S1x196608_3_0) : (⟨S85x196608, .f32⟩ : BufTy).Contents (Elt F) → (⟨S1x196608, .f32⟩ : BufTy).Contents (Elt F)),
    reshape main_v59 main_v60 (rfl : (.f32 : EltTy) = .f32) shapeCasts_S1x196608_S196608,
    unary main_v60 main_v61 (Host.exp : (⟨S196608, .f32⟩ : BufTy).Contents (Elt F) → (⟨S196608, .f32⟩ : BufTy).Contents (Elt F)),
    binary main_v61 main_v36 main_v62 (mulf : (⟨S196608, .f32⟩ : BufTy).Contents (Elt F) → (⟨S196608, .f32⟩ : BufTy).Contents (Elt F) → (⟨S196608, .f32⟩ : BufTy).Contents (Elt F)) ]

/-- What stage 9 writes. -/
def w9 : List (Ref sig .tc) := [main_v59, main_v60, main_v61, main_v62]

theorem keep9 (V : Valuation τ sig (Elt F)) {r : Ref sig .tc} (hr : r ∉ w9) :
    after s9 V (no_index (Proc.devRef .tc r)) = V (Proc.devRef .tc r) := after_unwritten w9 rfl hr V

theorem sub9 : (s9 : List (HloOp τ sig (Elt F))).Forall fun op => op.bufs ⊆ tcRefs τ sig :=
  ⟨unary_bufs_sub .., reshape_bufs_sub .., unary_bufs_sub .., binary_bufs_sub ..⟩

theorem fresh9 : (s9 : List (HloOp τ sig (Elt F))).Forall fun op => op.fresh = ∅ := forall_fresh_of_map rfl

/-- Stage 10: 10 operations, up to `main_v70`. -/
def s10 : List (HloOp τ sig (Elt F)) :=
  [ unary main_v2 main_v63 ((extractStridedSlice S1x196608 ![4, 0] · slices_S85x196608_S1x196608_4_0) : (⟨S85x196608, .f32⟩ : BufTy).Contents (Elt F) → (⟨S1x196608, .f32⟩ : BufTy).Contents (Elt F)),
    reshape main_v63 main_v64 (rfl : (.f32 : EltTy) = .f32) shapeCasts_S1x196608_S196608,
    unary main_v64 main_v65 (Host.negf : (⟨S196608, .f32⟩ : BufTy).Contents (Elt F) → (⟨S196608, .f32⟩ : BufTy).Contents (Elt F)),
    unary main_v65 main_v66 (Host.exp : (⟨S196608, .f32⟩ : BufTy).Contents (Elt F) → (⟨S196608, .f32⟩ : BufTy).Contents (Elt F)),
    nullary main_cst_4 (constant S_ .f32 0x3F800000#32),
    unary main_cst_4 main_v67 (broadcastInDim S196608 ![] bcast_S_S196608 : (⟨S_, .f32⟩ : BufTy).Contents (Elt F) → (⟨S196608, .f32⟩ : BufTy).Contents (Elt F)),
    binary main_v67 main_v66 main_v68 (addf : (⟨S196608, .f32⟩ : BufTy).Contents (Elt F) → (⟨S196608, .f32⟩ : BufTy).Contents (Elt F) → (⟨S196608, .f32⟩ : BufTy).Contents (Elt F)),
    nullary main_cst_5 (constant S_ .f32 0x3F800000#32),
    unary main_cst_5 main_v69 (broadcastInDim S196608 ![] bcast_S_S196608 : (⟨S_, .f32⟩ : BufTy).Contents (Elt F) → (⟨S196608, .f32⟩ : BufTy).Contents (Elt F)),
    binary main_v69 main_v68 main_v70 (Host.divf : (⟨S196608, .f32⟩ : BufTy).Contents (Elt F) → (⟨S196608, .f32⟩ : BufTy).Contents (Elt F) → (⟨S196608, .f32⟩ : BufTy).Contents (Elt F)) ]

/-- What stage 10 writes. -/
def w10 : List (Ref sig .tc) := [main_v63, main_v64, main_v65, main_v66, main_cst_4, main_v67, main_v68, main_cst_5, main_v69, main_v70]

theorem keep10 (V : Valuation τ sig (Elt F)) {r : Ref sig .tc} (hr : r ∉ w10) :
    after s10 V (no_index (Proc.devRef .tc r)) = V (Proc.devRef .tc r) := after_unwritten w10 rfl hr V

theorem sub10 : (s10 : List (HloOp τ sig (Elt F))).Forall fun op => op.bufs ⊆ tcRefs τ sig :=
  ⟨unary_bufs_sub .., reshape_bufs_sub .., unary_bufs_sub .., unary_bufs_sub .., nullary_bufs_sub .., unary_bufs_sub .., binary_bufs_sub .., nullary_bufs_sub .., unary_bufs_sub .., binary_bufs_sub ..⟩

theorem fresh10 : (s10 : List (HloOp τ sig (Elt F))).Forall fun op => op.fresh = ∅ := forall_fresh_of_map rfl

/-- Stage 11: 2 operations, up to `main_v72`. -/
def s11 : List (HloOp τ sig (Elt F)) :=
  [ unary main_v2 main_v71 ((extractStridedSlice S80x196608 ![5, 0] · slices_S85x196608_S80x196608_5_0) : (⟨S85x196608, .f32⟩ : BufTy).Contents (Elt F) → (⟨S80x196608, .f32⟩ : BufTy).Contents (Elt F)),
    unary main_v71 main_v72 ((transpose S196608x80 [1, 0] · transposes_S80x196608_S196608x80_1_0) : (⟨S80x196608, .f32⟩ : BufTy).Contents (Elt F) → (⟨S196608x80, .f32⟩ : BufTy).Contents (Elt F)) ]

/-- What stage 11 writes. -/
def w11 : List (Ref sig .tc) := [main_v71, main_v72]

theorem keep11 (V : Valuation τ sig (Elt F)) {r : Ref sig .tc} (hr : r ∉ w11) :
    after s11 V (no_index (Proc.devRef .tc r)) = V (Proc.devRef .tc r) := after_unwritten w11 rfl hr V

theorem sub11 : (s11 : List (HloOp τ sig (Elt F))).Forall fun op => op.bufs ⊆ tcRefs τ sig :=
  ⟨unary_bufs_sub .., unary_bufs_sub ..⟩

theorem fresh11 : (s11 : List (HloOp τ sig (Elt F))).Forall fun op => op.fresh = ∅ := forall_fresh_of_map rfl

/-- Stage 12: 5 operations, up to `main_v75`. -/
def s12 : List (HloOp τ sig (Elt F)) :=
  [ nullary main_cst_6 (constant S_ .f32 0xFF800000#32),
    binary main_v72 main_cst_6 main_v73 ((fun x v => Host.reduce FloatOps.maximumf x v reducesTo_S196608x80_S196608_d1 h_S_) : (⟨S196608x80, .f32⟩ : BufTy).Contents (Elt F) → (⟨S_, .f32⟩ : BufTy).Contents (Elt F) → (⟨S196608, .f32⟩ : BufTy).Contents (Elt F)),
    nullary main_cst_7 (constant S_ .f32 0xFF800000#32),
    unary main_cst_7 main_v74 (broadcastInDim S196608 ![] bcast_S_S196608 : (⟨S_, .f32⟩ : BufTy).Contents (Elt F) → (⟨S196608, .f32⟩ : BufTy).Contents (Elt F)),
    binary main_v74 main_v73 main_v75 (maximumf : (⟨S196608, .f32⟩ : BufTy).Contents (Elt F) → (⟨S196608, .f32⟩ : BufTy).Contents (Elt F) → (⟨S196608, .f32⟩ : BufTy).Contents (Elt F)) ]

/-- What stage 12 writes. -/
def w12 : List (Ref sig .tc) := [main_cst_6, main_v73, main_cst_7, main_v74, main_v75]

theorem keep12 (V : Valuation τ sig (Elt F)) {r : Ref sig .tc} (hr : r ∉ w12) :
    after s12 V (no_index (Proc.devRef .tc r)) = V (Proc.devRef .tc r) := after_unwritten w12 rfl hr V

theorem sub12 : (s12 : List (HloOp τ sig (Elt F))).Forall fun op => op.bufs ⊆ tcRefs τ sig :=
  ⟨nullary_bufs_sub .., binary_bufs_sub .., nullary_bufs_sub .., unary_bufs_sub .., binary_bufs_sub ..⟩

theorem fresh12 : (s12 : List (HloOp τ sig (Elt F))).Forall fun op => op.fresh = ∅ := forall_fresh_of_map rfl

/-- Stage 13: 4 operations, up to `main_v79`. -/
def s13 : List (HloOp τ sig (Elt F)) :=
  [ unary main_v75 main_v76 (broadcastInDim S196608x1 ![0] bcast_S196608_S196608x1_0 : (⟨S196608, .f32⟩ : BufTy).Contents (Elt F) → (⟨S196608x1, .f32⟩ : BufTy).Contents (Elt F)),
    unary main_v76 main_v77 (broadcastInDim S196608x80 ![0, 1] bcast_S196608x1_S196608x80_0_1 : (⟨S196608x1, .f32⟩ : BufTy).Contents (Elt F) → (⟨S196608x80, .f32⟩ : BufTy).Contents (Elt F)),
    binary main_v72 main_v77 main_v78 (subf : (⟨S196608x80, .f32⟩ : BufTy).Contents (Elt F) → (⟨S196608x80, .f32⟩ : BufTy).Contents (Elt F) → (⟨S196608x80, .f32⟩ : BufTy).Contents (Elt F)),
    unary main_v78 main_v79 (Host.exp : (⟨S196608x80, .f32⟩ : BufTy).Contents (Elt F) → (⟨S196608x80, .f32⟩ : BufTy).Contents (Elt F)) ]

/-- What stage 13 writes. -/
def w13 : List (Ref sig .tc) := [main_v76, main_v77, main_v78, main_v79]

theorem keep13 (V : Valuation τ sig (Elt F)) {r : Ref sig .tc} (hr : r ∉ w13) :
    after s13 V (no_index (Proc.devRef .tc r)) = V (Proc.devRef .tc r) := after_unwritten w13 rfl hr V

theorem sub13 : (s13 : List (HloOp τ sig (Elt F))).Forall fun op => op.bufs ⊆ tcRefs τ sig :=
  ⟨unary_bufs_sub .., unary_bufs_sub .., binary_bufs_sub .., unary_bufs_sub ..⟩

theorem fresh13 : (s13 : List (HloOp τ sig (Elt F))).Forall fun op => op.fresh = ∅ := forall_fresh_of_map rfl

/-- Stage 14: 5 operations, up to `main_v83`. -/
def s14 : List (HloOp τ sig (Elt F)) :=
  [ nullary main_cst_8 (constant S_ .f32 0x00000000#32),
    binary main_v79 main_cst_8 main_v80 ((fun x v => Host.reduceAdd x v reducesTo_S196608x80_S196608_d1 h_S_) : (⟨S196608x80, .f32⟩ : BufTy).Contents (Elt F) → (⟨S_, .f32⟩ : BufTy).Contents (Elt F) → (⟨S196608, .f32⟩ : BufTy).Contents (Elt F)),
    unary main_v80 main_v81 (broadcastInDim S196608x1 ![0] bcast_S196608_S196608x1_0 : (⟨S196608, .f32⟩ : BufTy).Contents (Elt F) → (⟨S196608x1, .f32⟩ : BufTy).Contents (Elt F)),
    unary main_v81 main_v82 (broadcastInDim S196608x80 ![0, 1] bcast_S196608x1_S196608x80_0_1 : (⟨S196608x1, .f32⟩ : BufTy).Contents (Elt F) → (⟨S196608x80, .f32⟩ : BufTy).Contents (Elt F)),
    binary main_v79 main_v82 main_v83 (Host.divf : (⟨S196608x80, .f32⟩ : BufTy).Contents (Elt F) → (⟨S196608x80, .f32⟩ : BufTy).Contents (Elt F) → (⟨S196608x80, .f32⟩ : BufTy).Contents (Elt F)) ]

/-- What stage 14 writes. -/
def w14 : List (Ref sig .tc) := [main_cst_8, main_v80, main_v81, main_v82, main_v83]

theorem keep14 (V : Valuation τ sig (Elt F)) {r : Ref sig .tc} (hr : r ∉ w14) :
    after s14 V (no_index (Proc.devRef .tc r)) = V (Proc.devRef .tc r) := after_unwritten w14 rfl hr V

theorem sub14 : (s14 : List (HloOp τ sig (Elt F))).Forall fun op => op.bufs ⊆ tcRefs τ sig :=
  ⟨nullary_bufs_sub .., binary_bufs_sub .., unary_bufs_sub .., unary_bufs_sub .., binary_bufs_sub ..⟩

theorem fresh14 : (s14 : List (HloOp τ sig (Elt F))).Forall fun op => op.fresh = ∅ := forall_fresh_of_map rfl

/-- Stage 15: 2 operations, up to `main_v84`. -/
def s15 : List (HloOp τ sig (Elt F)) :=
  [ nullary main_cst_9 (constant S_ .f32 0xFF800000#32),
    binary main_v83 main_cst_9 main_v84 ((fun x v => Host.reduce FloatOps.maximumf x v reducesTo_S196608x80_S196608_d1 h_S_) : (⟨S196608x80, .f32⟩ : BufTy).Contents (Elt F) → (⟨S_, .f32⟩ : BufTy).Contents (Elt F) → (⟨S196608, .f32⟩ : BufTy).Contents (Elt F)) ]

/-- What stage 15 writes. -/
def w15 : List (Ref sig .tc) := [main_cst_9, main_v84]

theorem keep15 (V : Valuation τ sig (Elt F)) {r : Ref sig .tc} (hr : r ∉ w15) :
    after s15 V (no_index (Proc.devRef .tc r)) = V (Proc.devRef .tc r) := after_unwritten w15 rfl hr V

theorem sub15 : (s15 : List (HloOp τ sig (Elt F))).Forall fun op => op.bufs ⊆ tcRefs τ sig :=
  ⟨nullary_bufs_sub .., binary_bufs_sub ..⟩

theorem fresh15 : (s15 : List (HloOp τ sig (Elt F))).Forall fun op => op.fresh = ∅ := forall_fresh_of_map rfl

/-- Stage 16: 5 operations, up to `main_v85`. -/
def s16 : List (HloOp τ sig (Elt F)) :=
  [ TRef.nullary main_call0.v0 (iotaInDim S196608x80 32 1),
    TRef.nullary main_call0.cst (constant S_ .f32 0xFF800000#32),
    TRef.nullary main_call0.c (constantI S_ 32 0#32),
    TRef.quaternary (.of main_v83 : TRef sig ⟨S196608x80, .f32⟩) main_call0.v0 main_call0.cst main_call0.c main_call0.v1_0 (fun x y u v j => (Host.argReduce reducer_argmax_f32_i32 x y u v reducesTo_S196608x80_S196608_d1 h_S_ j).1),
    TRef.quaternary (.of main_v83 : TRef sig ⟨S196608x80, .f32⟩) main_call0.v0 main_call0.cst main_call0.c main_call0.v1_1 (fun x y u v j => (Host.argReduce reducer_argmax_f32_i32 x y u v reducesTo_S196608x80_S196608_d1 h_S_ j).2) ]

/-- What stage 16 writes. -/
def w16 : List (Ref sig .tc) := [main_call0_v0, main_call0_cst, main_call0_c, main_call0_v1_0, main_v85]

theorem keep16 (V : Valuation τ sig (Elt F)) {r : Ref sig .tc} (hr : r ∉ w16) :
    after s16 V (no_index (Proc.devRef .tc r)) = V (Proc.devRef .tc r) := after_unwritten w16 rfl hr V

theorem sub16 : (s16 : List (HloOp τ sig (Elt F))).Forall fun op => op.bufs ⊆ tcRefs τ sig :=
  ⟨nullary_bufs_sub .., nullary_bufs_sub .., nullary_bufs_sub .., quaternary_bufs_sub .., quaternary_bufs_sub ..⟩

theorem fresh16 : (s16 : List (HloOp τ sig (Elt F))).Forall fun op => op.fresh = ∅ := forall_fresh_of_map rfl

/-- Stage 17: 12 operations, up to `main_v93`. -/
def s17 : List (HloOp τ sig (Elt F)) :=
  [ nullary main_cst_10 (constant S_ .f32 0x42800000#32),
    unary main_cst_10 main_v86 (broadcastInDim S196608 ![] bcast_S_S196608 : (⟨S_, .f32⟩ : BufTy).Contents (Elt F) → (⟨S196608, .f32⟩ : BufTy).Contents (Elt F)),
    binary main_v45 main_v86 main_v87 (Host.divf : (⟨S196608, .f32⟩ : BufTy).Contents (Elt F) → (⟨S196608, .f32⟩ : BufTy).Contents (Elt F) → (⟨S196608, .f32⟩ : BufTy).Contents (Elt F)),
    nullary main_cst_11 (constant S_ .f32 0x42800000#32),
    unary main_cst_11 main_v88 (broadcastInDim S196608 ![] bcast_S_S196608 : (⟨S_, .f32⟩ : BufTy).Contents (Elt F) → (⟨S196608, .f32⟩ : BufTy).Contents (Elt F)),
    binary main_v54 main_v88 main_v89 (Host.divf : (⟨S196608, .f32⟩ : BufTy).Contents (Elt F) → (⟨S196608, .f32⟩ : BufTy).Contents (Elt F) → (⟨S196608, .f32⟩ : BufTy).Contents (Elt F)),
    nullary main_cst_12 (constant S_ .f32 0x42800000#32),
    unary main_cst_12 main_v90 (broadcastInDim S196608 ![] bcast_S_S196608 : (⟨S_, .f32⟩ : BufTy).Contents (Elt F) → (⟨S196608, .f32⟩ : BufTy).Contents (Elt F)),
    binary main_v58 main_v90 main_v91 (Host.divf : (⟨S196608, .f32⟩ : BufTy).Contents (Elt F) → (⟨S196608, .f32⟩ : BufTy).Contents (Elt F) → (⟨S196608, .f32⟩ : BufTy).Contents (Elt F)),
    nullary main_cst_13 (constant S_ .f32 0x42800000#32),
    unary main_cst_13 main_v92 (broadcastInDim S196608 ![] bcast_S_S196608 : (⟨S_, .f32⟩ : BufTy).Contents (Elt F) → (⟨S196608, .f32⟩ : BufTy).Contents (Elt F)),
    binary main_v62 main_v92 main_v93 (Host.divf : (⟨S196608, .f32⟩ : BufTy).Contents (Elt F) → (⟨S196608, .f32⟩ : BufTy).Contents (Elt F) → (⟨S196608, .f32⟩ : BufTy).Contents (Elt F)) ]

/-- What stage 17 writes. -/
def w17 : List (Ref sig .tc) := [main_cst_10, main_v86, main_v87, main_cst_11, main_v88, main_v89, main_cst_12, main_v90, main_v91, main_cst_13, main_v92, main_v93]

theorem keep17 (V : Valuation τ sig (Elt F)) {r : Ref sig .tc} (hr : r ∉ w17) :
    after s17 V (no_index (Proc.devRef .tc r)) = V (Proc.devRef .tc r) := after_unwritten w17 rfl hr V

theorem sub17 : (s17 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩

theorem fresh17 : (s17 : List (HloOp τ sig (Elt F))).Forall fun op => op.fresh = ∅ := forall_fresh_of_map rfl

/-- Stage 18: 7 operations, up to `main_v100`. -/
def s18 : List (HloOp τ sig (Elt F)) :=
  [ unary main_v87 main_v94 (broadcastInDim S196608x1 ![0] bcast_S196608_S196608x1_0 : (⟨S196608, .f32⟩ : BufTy).Contents (Elt F) → (⟨S196608x1, .f32⟩ : BufTy).Contents (Elt F)),
    unary main_v89 main_v95 (broadcastInDim S196608x1 ![0] bcast_S196608_S196608x1_0 : (⟨S196608, .f32⟩ : BufTy).Contents (Elt F) → (⟨S196608x1, .f32⟩ : BufTy).Contents (Elt F)),
    unary main_v91 main_v96 (broadcastInDim S196608x1 ![0] bcast_S196608_S196608x1_0 : (⟨S196608, .f32⟩ : BufTy).Contents (Elt F) → (⟨S196608x1, .f32⟩ : BufTy).Contents (Elt F)),
    unary main_v93 main_v97 (broadcastInDim S196608x1 ![0] bcast_S196608_S196608x1_0 : (⟨S196608, .f32⟩ : BufTy).Contents (Elt F) → (⟨S196608x1, .f32⟩ : BufTy).Contents (Elt F)),
    unary main_v70 main_v98 (broadcastInDim S196608x1 ![0] bcast_S196608_S196608x1_0 : (⟨S196608, .f32⟩ : BufTy).Contents (Elt F) → (⟨S196608x1, .f32⟩ : BufTy).Contents (Elt F)),
    unary main_v84 main_v99 (broadcastInDim S196608x1 ![0] bcast_S196608_S196608x1_0 : (⟨S196608, .f32⟩ : BufTy).Contents (Elt F) → (⟨S196608x1, .f32⟩ : BufTy).Contents (Elt F)),
    nary ![main_v94, main_v95, main_v96, main_v97, main_v98, main_v99] main_v100 (fun u => (concatenate S196608x6 1 [⟨S196608x1, (u 0 : (⟨S196608x1, .f32⟩ : BufTy).Contents (Elt F))⟩, ⟨S196608x1, (u 1 : (⟨S196608x1, .f32⟩ : BufTy).Contents (Elt F))⟩, ⟨S196608x1, (u 2 : (⟨S196608x1, .f32⟩ : BufTy).Contents (Elt F))⟩, ⟨S196608x1, (u 3 : (⟨S196608x1, .f32⟩ : BufTy).Contents (Elt F))⟩, ⟨S196608x1, (u 4 : (⟨S196608x1, .f32⟩ : BufTy).Contents (Elt F))⟩, ⟨S196608x1, (u 5 : (⟨S196608x1, .f32⟩ : BufTy).Contents (Elt F))⟩] concatenates_S196608x1_S196608x1_S196608x1_S196608x1_S196608x1_S196608x1_S196608x6_d1 : (⟨S196608x6, .f32⟩ : BufTy).Contents (Elt F))) ]

/-- What stage 18 writes. -/
def w18 : List (Ref sig .tc) := [main_v94, main_v95, main_v96, main_v97, main_v98, main_v99, main_v100]

theorem keep18 (V : Valuation τ sig (Elt F)) {r : Ref sig .tc} (hr : r ∉ w18) :
    after s18 V (no_index (Proc.devRef .tc r)) = V (Proc.devRef .tc r) := after_unwritten w18 rfl hr V

theorem sub18 : (s18 : List (HloOp τ sig (Elt F))).Forall fun op => op.bufs ⊆ tcRefs τ sig :=
  ⟨unary_bufs_sub .., unary_bufs_sub .., unary_bufs_sub .., unary_bufs_sub .., unary_bufs_sub .., unary_bufs_sub .., nary_bufs_sub ..⟩

theorem fresh18 : (s18 : List (HloOp τ sig (Elt F))).Forall fun op => op.fresh = ∅ := forall_fresh_of_map rfl

/-- Stage 19: 4 operations, up to `main_cst_14`. -/
def s19 : List (HloOp τ sig (Elt F)) :=
  [ unary main_arg1 main_v101 (broadcastInDim S196608 ![] bcast_S_S196608 : (⟨S_, .f32⟩ : BufTy).Contents (Elt F) → (⟨S196608, .f32⟩ : BufTy).Contents (Elt F)),
    binary main_v70 main_v101 main_v102 (cmpf .ogt : (⟨S196608, .f32⟩ : BufTy).Contents (Elt F) → (⟨S196608, .f32⟩ : BufTy).Contents (Elt F) → (⟨S196608, .i1⟩ : BufTy).Contents (Elt F)),
    unary main_v102 main_v103 (broadcastInDim S196608x1 ![0] bcast_S196608_S196608x1_0 : (⟨S196608, .i1⟩ : BufTy).Contents (Elt F) → (⟨S196608x1, .i1⟩ : BufTy).Contents (Elt F)),
    nullary main_cst_14 (constant S_ .f32 0x00000000#32) ]

/-- What stage 19 writes. -/
def w19 : List (Ref sig .tc) := [main_v101, main_v102, main_v103, main_cst_14]

theorem keep19 (V : Valuation τ sig (Elt F)) {r : Ref sig .tc} (hr : r ∉ w19) :
    after s19 V (no_index (Proc.devRef .tc r)) = V (Proc.devRef .tc r) := after_unwritten w19 rfl hr V

theorem sub19 : (s19 : List (HloOp τ sig (Elt F))).Forall fun op => op.bufs ⊆ tcRefs τ sig :=
  ⟨unary_bufs_sub .., binary_bufs_sub .., unary_bufs_sub .., nullary_bufs_sub ..⟩

theorem fresh19 : (s19 : List (HloOp τ sig (Elt F))).Forall fun op => op.fresh = ∅ := forall_fresh_of_map rfl

/-- Stage 20: 4 operations, up to `main_v104`. -/
def s20 : List (HloOp τ sig (Elt F)) :=
  [ TRef.unary (.of main_cst_14 : TRef sig ⟨S_, .f32⟩) main_call1.v0 id,
    TRef.unary (.of main_v103 : TRef sig ⟨S196608x1, .i1⟩) main_call1.v1 (broadcastInDim S196608x6 ![0, 1] bcast_S196608x1_S196608x6_0_1),
    TRef.unary main_call1.v0 main_call1.v2 (broadcastInDim S196608x6 ![] bcast_S_S196608x6),
    TRef.ternary main_call1.v1 (.of main_v100 : TRef sig ⟨S196608x6, .f32⟩) main_call1.v2 main_call1.v3 select ]

/-- What stage 20 writes. -/
def w20 : List (Ref sig .tc) := [main_call1_v0, main_call1_v1, main_call1_v2, main_v104]

theorem keep20 (V : Valuation τ sig (Elt F)) {r : Ref sig .tc} (hr : r ∉ w20) :
    after s20 V (no_index (Proc.devRef .tc r)) = V (Proc.devRef .tc r) := after_unwritten w20 rfl hr V

theorem sub20 : (s20 : List (HloOp τ sig (Elt F))).Forall fun op => op.bufs ⊆ tcRefs τ sig :=
  ⟨unary_bufs_sub .., unary_bufs_sub .., unary_bufs_sub .., ternary_bufs_sub ..⟩

theorem fresh20 : (s20 : List (HloOp τ sig (Elt F))).Forall fun op => op.fresh = ∅ := forall_fresh_of_map rfl

/-- Stage 21: 4 operations, up to `main_v105`. -/
def s21 : List (HloOp τ sig (Elt F)) :=
  [ nullary main_c (constantI S_ 32 4294967295#32),
    TRef.unary (.of main_c : TRef sig ⟨S_, .i32⟩) main_call2.v0 id,
    TRef.unary main_call2.v0 main_call2.v1 (broadcastInDim S196608 ![] bcast_S_S196608),
    TRef.ternary (.of main_v102 : TRef sig ⟨S196608, .i1⟩) (.of main_v85 : TRef sig ⟨S196608, .i32⟩) main_call2.v1 main_call2.v2 select ]

/-- What stage 21 writes. -/
def w21 : List (Ref sig .tc) := [main_c, main_call2_v0, main_call2_v1, main_v105]

theorem keep21 (V : Valuation τ sig (Elt F)) {r : Ref sig .tc} (hr : r ∉ w21) :
    after s21 V (no_index (Proc.devRef .tc r)) = V (Proc.devRef .tc r) := after_unwritten w21 rfl hr V

theorem sub21 : (s21 : List (HloOp τ sig (Elt F))).Forall fun op => op.bufs ⊆ tcRefs τ sig :=
  ⟨nullary_bufs_sub .., unary_bufs_sub .., unary_bufs_sub .., ternary_bufs_sub ..⟩

theorem fresh21 : (s21 : List (HloOp τ sig (Elt F))).Forall fun op => op.fresh = ∅ := forall_fresh_of_map rfl

/-- @main's window 0. -/
abbrev ops0 : List (HloOp τ sig (Elt F)) := s1 ++ (s2 ++ (s3 ++ (s4 ++ (s5 ++ (s6 ++ (s7))))))

/-- @main's window 1. -/
abbrev ops1 : List (HloOp τ sig (Elt F)) := s8 ++ (s9 ++ (s10 ++ (s11 ++ (s12 ++ (s13 ++ (s14 ++ (s15 ++ (s16 ++ (s17 ++ (s18 ++ (s19)))))))))))

/-- @main's window 2. -/
abbrev ops2 : List (HloOp τ sig (Elt F)) := s20 ++ (s21)

/-- @main's operations, in order. -/
abbrev ops : List (HloOp τ sig (Elt F)) := ops0 ++ (ops1 ++ ops2)

set_option maxHeartbeats 2000000 in
theorem part0_eq (c : Dev nD) : main_part0 (F := F) c = seq ops0 := by
  simp only [main_part0, ops0, s1, s2, s3, s4, s5, s6, s7, List.cons_append, List.nil_append, seq, bind_assoc, pure_bind]
  rfl

set_option maxHeartbeats 2000000 in
theorem part1_eq (c : Dev nD) : main_part1 (F := F) c = seq ops1 := by
  simp only [main_part1, fn_argmax.body, ops1, s8, s9, s10, s11, s12, s13, s14, s15, s16, s17, s18, s19, List.cons_append, List.nil_append, seq, bind_assoc, pure_bind]
  rfl

set_option maxHeartbeats 2000000 in
theorem part2_eq (c : Dev nD) : main_part2 (F := F) c = seq ops2 := by
  simp only [main_part2, fn_where.body, fn_where_0.body, ops2, s20, s21, List.cons_append, List.nil_append, seq, bind_assoc, pure_bind]

/-- @main is that straight line. -/
theorem main_eq (c : Dev nD) : main (F := F) c = seq ops := by
  simp only [main, part0_eq, part1_eq, part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, ops0, ops1, ops2, List.forall_append]
  exact ⟨⟨sub1, sub2, sub3, sub4, sub5, sub6, sub7⟩, ⟨sub8, sub9, sub10, sub11, sub12, sub13, sub14, sub15, sub16, sub17, sub18, sub19⟩, sub20, sub21⟩

theorem ops_fresh : ∀ op ∈ (ops : List (HloOp τ sig (Elt F))), op.fresh = ∅ := by
  rw [← List.forall_iff_forall_mem]
  simp only [ops, ops0, ops1, ops2, List.forall_append]
  exact ⟨⟨fresh1, fresh2, fresh3, fresh4, fresh5, fresh6, fresh7⟩, ⟨fresh8, fresh9, fresh10, fresh11, fresh12, fresh13, fresh14, fresh15, fresh16, fresh17, fresh18, fresh19⟩, fresh20, fresh21⟩

/-- Every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The stages in their order, each over the contents the one before leaves. -/
theorem after_ops (V : Valuation τ sig (Elt F)) : after ops V = after s21 (after s20 (after s19 (after s18 (after s17 (after s16 (after s15 (after s14 (after s13 (after s12 (after s11 (after s10 (after s9 (after s8 (after s7 (after s6 (after s5 (after s4 (after s3 (after s2 (after s1 (V))))))))))))))))))))) := by
  simp only [ops, ops0, ops1, ops2, StableHlo.after_append]

/-- No operation writes the first argument. -/
theorem arg0_eq (V : Valuation τ sig (Elt F)) : after ops V (Proc.devRef .tc main_arg0) = V (Proc.devRef .tc main_arg0) := by
  rw [after_ops]
  simp (disch := decide) only [keep21, keep20, keep19, keep18, keep17, keep16, keep15, keep14, keep13, keep12, keep11, keep10, keep9, keep8, keep7, keep6, keep5, keep4, keep3, keep2, keep1]

/-- No operation writes the second argument. -/
theorem arg1_eq (V : Valuation τ sig (Elt F)) : after ops V (Proc.devRef .tc main_arg1) = V (Proc.devRef .tc main_arg1) := by
  rw [after_ops]
  simp (disch := decide) only [keep21, keep20, keep19, keep18, keep17, keep16, keep15, keep14, keep13, keep12, keep11, keep10, keep9, keep8, keep7, keep6, keep5, keep4, keep3, keep2, keep1]

/-- The reference's frame: it terminates, its arguments end as they began, and it has no counter. -/
theorem frame : Cert.quiescent_ReferenceIdeal := fun m g _ =>
  (θ_run Cert.ReferenceIdeal.defs _ _).mono (fun r h => ⟨fun c =>
      ⟨(h c main_arg0).trans (arg0_eq _), (h c main_arg1).trans (arg1_eq _)⟩,
      Idealize.ShloMosaic.sem_eq_zero_of_no_sems (by decide) r.2⟩)
    (run_main m g)

end Cert.Proof.Ref
-- ==== Proof.KRun.lean ====
/-
  The kernel program's run: what the two results hold at the end, in terms of the arrays the region leaves, the
  arguments unchanged.
-/
module

public import proofs.«01_k».proof.Defs
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.Proof.Ker

open Idealize.ShloMosaic Idealize.ShloMosaic.TcCoe Idealize.ShloMosaic.StableHlo Idealize.SL.Sem
open Cert.KernelIdeal Cert.KernelIdeal.Gen

variable {F : FTy → Type} [FloatOps F] (m : (ℓ : Loc nD τ sig) → Buf (Elt F) ℓ) (ρ : Dev nD → PrngReg)

/-- The class numbers the region leaves, flattened by the line after it. -/
theorem tail_v3 (c : Dev nD) :
    Pipeline.afterTail₀ cfgs (dats m) 0 (V0 m) [hostOps1] c main_v3
      = (shapeCast S196608 (((dats m 0 c).arrAt 3 (cfgs 0).N : IVec S48x1x4096 32)) shapeCasts_S48x1x4096_S196608 : IVec S196608 32) := by
  unfold Pipeline.afterTail₀
  simp only [List.flatten_cons, List.flatten_nil, List.append_nil, after_cons, after_nil]
  rw [reshape_result]
  exact congrArg (fun A : IVec S48x1x4096 32 => shapeCast S196608 A shapeCasts_S48x1x4096_S196608)
    (Pipeline.withArrays_arr spec0 (by decide) c (V0 m c) (fun w => (dats m 0 c).arrAt w (cfgs 0).N) 3)

/-- The two reshapes before the region: the raw scores as one plane per picture and anchor, -/
theorem V_v0 (c : Dev nD) :
    V m c main_v0 = (shapeCast S48x85x4096 (m ((c : Thread nD τ).loc main_arg0) : FVec F S16x255x64x64 .f32) shapeCasts_S16x255x64x64_S48x85x4096 : FVec F S48x85x4096 .f32) := by
  show after (List.flatten [hostOps0]) (fun b => m (c, b)) _ = _
  simp only [List.flatten_cons, List.flatten_nil, List.append_nil]
  after_results
  rfl

/-- … and the threshold as a one by one block. -/
theorem V_v1 (c : Dev nD) :
    V m c main_v1 = (shapeCast S1x1 (m ((c : Thread nD τ).loc main_arg1) : FVec F S_ .f32) shapeCasts_S_S1x1 : FVec F S1x1 .f32) := by
  show after (List.flatten [hostOps0]) (fun b => m (c, b)) _ = _
  simp only [List.flatten_cons, List.flatten_nil, List.append_nil]
  after_results
  rfl

/-- The run: the boxes are the array the region leaves, the class numbers the other array flattened. -/
theorem run : θ_run defs (onTc (τ := τ) (main (F := F))) ⟨m, fun _ => 0, ρ⟩ fun r => ∀ c : Dev nD,
    r.2.mem ((c : Thread nD τ).loc main_v2_0) = (dats m 0 c).arrAt 2 (cfgs 0).N
    ∧ r.2.mem ((c : Thread nD τ).loc main_v3)
        = (shapeCast S196608 (((dats m 0 c).arrAt 3 (cfgs 0).N : IVec S48x1x4096 32)) shapeCasts_S48x1x4096_S196608 : IVec S196608 32) := by
  refine (θ_run defs _ _).mono ?_ (run_main m ρ)
  intro r hr c
  refine ⟨(hr c).1 2, ?_⟩
  rw [← tail_v3 m c]
  exact (hr c).2 main_v3 (Pipeline.mem_restRefs_of main_v3 (by decide) (by decide))

end Cert.Proof.Ker
-- ==== Proof.Soft.lean ====
/-
  The mathematics of one cell: the scores of the 80 classes, the greatest of them, the softmax over them and the
  first class that holds the greatest score. Nothing here mentions a program.
-/
module

public import Idealize.ShloMosaic.Lib.Pipeline.ValueKit

@[expose] public section

noncomputable section

namespace Cert.Proof.Soft

open Idealize.ShloMosaic

/-- The greatest score. -/
def top (c : Fin 80 → EReal) : EReal := Finset.fold max ⊥ c Finset.univ

/-- The exponential of a score under the greatest. -/
def wt (c : Fin 80 → EReal) (k : Fin 80) : EReal := Ideal.exp (c k - top c)

/-- The sum of the exponentials. -/
def total (c : Fin 80 → EReal) : EReal := ∑ k, wt c k

/-- The softmax. -/
def share (c : Fin 80 → EReal) (k : Fin 80) : EReal := Ideal.div (wt c k) (total c)

variable {c : Fin 80 → EReal}

theorem le_top (c : Fin 80 → EReal) (k : Fin 80) : c k ≤ top c :=
  (Finset.le_fold_max (c k)).mpr (Or.inr ⟨k, Finset.mem_univ k, le_rfl⟩)

/-- A bound on every score and on minus infinity bounds the greatest. -/
theorem top_le {c : Fin 80 → EReal} {b : EReal} (h : ∀ k, c k ≤ b) : top c ≤ b :=
  (Finset.fold_max_le b).mpr ⟨bot_le, fun k _ => h k⟩

/-- Some class holds the greatest score; the first that does. -/
theorem exists_first (h : ⊥ < top c) : ∃ k, top c ≤ c k ∧ ∀ j, j < k → c j < top c := by
  have hex : ∃ k, top c ≤ c k := by
    rcases (Finset.le_fold_max (top c)).mp (le_refl (Finset.fold max ⊥ c Finset.univ)) with h0 | ⟨k, _, hk⟩
    · exact absurd h (not_lt.mpr h0)
    · exact ⟨k, hk⟩
  obtain ⟨k, hk, hmin⟩ := WellFounded.has_min (wellFounded_lt (α := Fin 80)) {k | top c ≤ c k} hex
  exact ⟨k, hk, fun j hj => not_le.mp fun hle => hmin j hle hj⟩

/-- Under a real greatest score every exponential is a real number from zero to one, and it is one exactly at the
    classes that hold the greatest score. -/
theorem wt_real (c : Fin 80 → EReal) (h0 : ⊥ < top c) (h1 : top c < ⊤) (k : Fin 80) :
    ∃ e : ℝ, wt c k = (e : EReal) ∧ 0 ≤ e ∧ e ≤ 1 ∧ (top c ≤ c k → e = 1) ∧ (c k < top c → e < 1) := by
  have hle := le_top c k
  unfold wt
  generalize top c = M at *
  generalize c k = a at *
  induction M using EReal.rec with
  | bot => exact absurd h0 (lt_irrefl _)
  | top => exact absurd h1 (lt_irrefl _)
  | coe M =>
    induction a using EReal.rec with
    | bot =>
      refine ⟨0, by simp, le_rfl, zero_le_one, fun h => absurd h (not_le.mpr h0), fun _ => zero_lt_one⟩
    | top => exact absurd hle (not_le.mpr h1)
    | coe a =>
      have hle' : a ≤ M := EReal.coe_le_coe_iff.mp hle
      refine ⟨Real.exp (a - M), ?_, (Real.exp_pos _).le, ?_, fun h => ?_, fun h => ?_⟩
      · rw [← EReal.coe_sub, Ideal.exp_coe]
      · rw [Real.exp_le_one_iff]; linarith
      · have : a = M := le_antisymm hle' (EReal.coe_le_coe_iff.mp h)
        rw [this, sub_self, Real.exp_zero]
      · have : a < M := EReal.coe_lt_coe_iff.mp h
        rw [Real.exp_lt_one_iff]; linarith

/-- A finite sum of real numbers, read among the extended reals. -/
theorem coe_sum {n : ℕ} (e : Fin n → ℝ) : ((∑ k, e k : ℝ) : EReal) = ∑ k, (e k : EReal) := by
  induction n with
  | zero => simp
  | succ n ih => rw [Fin.sum_univ_succ, Fin.sum_univ_succ, EReal.coe_add, ih]

/-- Under a real greatest score the softmax at a class is at most the reciprocal of the sum, that reciprocal at the
    classes that hold the greatest score, below it elsewhere, and never negative. -/
theorem share_spec (c : Fin 80 → EReal) (h0 : ⊥ < top c) (h1 : top c < ⊤) (k : Fin 80) :
    0 ≤ share c k ∧ share c k ≤ Ideal.div 1 (total c)
      ∧ (top c ≤ c k → share c k = Ideal.div 1 (total c)) ∧ (c k < top c → share c k < Ideal.div 1 (total c)) := by
  choose e he he0 he1 hetop helt using wt_real c h0 h1
  have hS : total c = ((∑ k, e k : ℝ) : EReal) := by
    unfold total
    rw [coe_sum]
    exact Finset.sum_congr rfl fun k _ => he k
  obtain ⟨k₀, hk₀, -⟩ := exists_first h0
  have hpos : 0 < ∑ k, e k := by
    refine Finset.sum_pos' (fun k _ => he0 k) ⟨k₀, Finset.mem_univ _, ?_⟩
    rw [hetop k₀ hk₀]; exact zero_lt_one
  have hs : share c k = ((e k * (1 / ∑ k, e k) : ℝ) : EReal) := by
    unfold share
    rw [hS, he k, Ideal.div_coe hpos.ne', ← EReal.coe_mul]
  have ht : Ideal.div 1 (total c) = (((1 : ℝ) * (1 / ∑ k, e k) : ℝ) : EReal) := by
    rw [hS, Ideal.div_coe hpos.ne', EReal.coe_mul, EReal.coe_one]
  have hinv : 0 < 1 / ∑ k, e k := one_div_pos.mpr hpos
  rw [hs, ht]
  refine ⟨?_, ?_, fun h => ?_, fun h => ?_⟩
  · exact_mod_cast mul_nonneg (he0 k) hinv.le
  · exact_mod_cast mul_le_mul_of_nonneg_right (he1 k) hinv.le
  · rw [hetop k h]
  · exact_mod_cast mul_lt_mul_of_pos_right (helt k h) hinv

/-- The greatest softmax is the reciprocal of the sum. -/
theorem top_share (c : Fin 80 → EReal) (h0 : ⊥ < top c) (h1 : top c < ⊤) : top (share c) = Ideal.div 1 (total c) := by
  obtain ⟨k₀, hk₀, -⟩ := exists_first h0
  refine le_antisymm (top_le fun k => (share_spec c h0 h1 k).2.1) ?_
  rw [← (share_spec c h0 h1 k₀).2.2.1 hk₀]
  exact le_top _ k₀

/-! ### The same sums and maxima over the cell's 85 rows, the class rows being the last 80 -/

/-- The class scores among a cell's 85 rows. -/
def cls (z : Fin 85 → EReal) (k : Fin 80) : EReal := z ⟨5 + k.val, by omega⟩

theorem sum_rows (f : Fin 85 → EReal) (h : ∀ x : Fin 85, x.val < 5 → f x = 0) :
    ∑ x, f x = ∑ k : Fin 80, f ⟨5 + k.val, by omega⟩ := by
  have e := Fin.sum_univ_add (M := EReal) (a := 5) (b := 80) f
  rw [e, Finset.sum_eq_zero fun i _ => h (Fin.castAdd 80 i) i.isLt, zero_add]
  rfl

theorem max_rows (z f : Fin 85 → EReal) (hlo : ∀ x : Fin 85, x.val < 5 → f x = ⊥) (hhi : ∀ x : Fin 85, 5 ≤ x.val → f x = z x) :
    Finset.fold max ⊥ f Finset.univ = top (cls z) := by
  refine le_antisymm ((Finset.fold_max_le _).mpr ⟨bot_le, fun x _ => ?_⟩) (top_le fun k => ?_)
  · by_cases hx : x.val < 5
    · rw [hlo x hx]; exact bot_le
    · have hx' : 5 ≤ x.val := by omega
      have hk : x.val - 5 < 80 := by omega
      have : z x = cls z ⟨x.val - 5, hk⟩ := by
        unfold cls; congr 1; ext; simp; omega
      rw [hhi x hx', this]
      exact le_top _ _
  · refine (Finset.le_fold_max _).mpr (Or.inr ⟨⟨5 + k.val, by omega⟩, Finset.mem_univ _, ?_⟩)
    rw [hhi _ (by simp)]
    exact le_rfl

end Cert.Proof.Soft
-- ==== Proof.MinRow.lean ====
/-
  The first class that holds the greatest score, as the kernel finds it: the least row number among those whose score
  is at least the greatest, minus the five rows before the classes.
-/
module

public import proofs.«01_k».proof.Proof.Soft

@[expose] public section

noncomputable section

namespace Cert.Proof.Soft

open Idealize.ShloMosaic

theorem toInt_minsi (a b : BitVec 32) : (IntOp.minsi a b).toInt = min a.toInt b.toInt := by
  unfold IntOp.minsi
  simp only [BitVec.slt]
  split <;> simp_all <;> omega

/-- A fold of the signed minimum is the word whose signed number is the least. -/
theorem fold_minsi {n : ℕ} (f : Fin n → BitVec 32) (b w : BitVec 32) (k : Fin n) (hk : f k = w)
    (hb : w.toInt ≤ b.toInt) (hf : ∀ x, w.toInt ≤ (f x).toInt) :
    Finset.fold IntOp.minsi b f Finset.univ = w := by
  apply BitVec.eq_of_toInt_eq
  have e : (Finset.fold IntOp.minsi b f Finset.univ).toInt
      = Finset.fold min b.toInt (fun x => (f x).toInt) Finset.univ :=
    (Finset.fold_hom (m := BitVec.toInt) (fun x y => toInt_minsi x y)).symm
  rw [e]
  refine le_antisymm ?_ ?_
  · exact (Finset.fold_min_le _).mpr (Or.inr ⟨k, Finset.mem_univ _, by rw [hk]⟩)
  · exact (Finset.le_fold_min _).mpr ⟨hb, fun x _ => hf x⟩

theorem toInt_row : ∀ x : Fin 86, (BitVec.ofNat 32 x.val).toInt = (x.val : Int) := by decide

theorem row_sub : ∀ k : Fin 80, IntOp.subi (BitVec.ofNat 32 (5 + k.val)) 5#32 = BitVec.ofNat 32 k.val := by decide

/-- The least row number at which a condition holds, 85 standing where it does not. -/
theorem first_row (p : Fin 85 → BitVec 1) (k : Fin 80) (hk : p ⟨5 + k.val, by omega⟩ = 1#1)
    (hlt : ∀ x : Fin 85, x.val < 5 + k.val → p x = 0#1) :
    IntOp.subi (Finset.fold IntOp.minsi 2147483647#32 (fun x : Fin 85 => Scalar.select (p x) (BitVec.ofNat 32 x.val) 85#32)
      Finset.univ) 5#32 = BitVec.ofNat 32 k.val := by
  have hrow : (BitVec.ofNat 32 (5 + k.val)).toInt = ((5 + k.val : ℕ) : Int) := toInt_row ⟨5 + k.val, by omega⟩
  rw [fold_minsi _ _ (BitVec.ofNat 32 (5 + k.val)) ⟨5 + k.val, by omega⟩, row_sub]
  · simp only [hk]; rfl
  · rw [hrow]
    have : (2147483647#32).toInt = 2147483647 := by decide
    omega
  · intro x
    rw [hrow]
    rcases BitVec.eq_zero_or_eq_one (p x) with h | h
    · simp only [h]
      show _ ≤ (85#32).toInt
      have : (85#32).toInt = 85 := by decide
      omega
    · simp only [h]
      show _ ≤ (BitVec.ofNat 32 x.val).toInt
      rw [toInt_row ⟨x.val, by omega⟩]
      have : ¬ x.val < 5 + k.val := fun hx => by rw [hlt x hx] at h; exact absurd h (by decide)
      simp only; omega

end Cert.Proof.Soft
-- ==== Proof.Consts.lean ====
/-
  The constants of the two programs, as extended reals.
-/
module

public import Idealize.ShloMosaic.Lib.Pipeline.ValueKit

@[expose] public section

noncomputable section

namespace Cert.Proof.Consts

open Idealize.ShloMosaic

theorem ninf : Ideal.ofBits .f32 0xFF800000#32 = ⊥ := by
  simp [Ideal.ofBits, Ideal.ieee]

theorem pinf : Ideal.ofBits .f32 0x7F800000#32 = ⊤ := by
  simp [Ideal.ofBits, Ideal.ieee]

/-- 64, by which the reference divides. -/
theorem c64 : Ideal.ofBits .f32 0x42800000#32 = ((64 : ℝ) : EReal) := by
  simp [Ideal.ofBits, Ideal.ieee, -EReal.coe_mul]; norm_num

/-- 1/64, by which the kernel multiplies. -/
theorem inv64 : Ideal.ofBits .f32 0x3C800000#32 = ((1 / 64 : ℝ) : EReal) := by
  simp [Ideal.ofBits, Ideal.ieee, -EReal.coe_mul]; norm_num

/-! The anchors' widths and heights, in the reference's cells and, divided by 64, in the kernel. -/

theorem w0 : Ideal.ofBits .f32 0x3EC00000#32 = ((3 / 8 : ℝ) : EReal) := by
  simp [Ideal.ofBits, Ideal.ieee, -EReal.coe_mul]; norm_num
theorem h0 : Ideal.ofBits .f32 0x3F000000#32 = ((1 / 2 : ℝ) : EReal) := by
  simp [Ideal.ofBits, Ideal.ieee, -EReal.coe_mul]; norm_num
theorem w1 : Ideal.ofBits .f32 0x3F180000#32 = ((19 / 32 : ℝ) : EReal) := by
  simp [Ideal.ofBits, Ideal.ieee, -EReal.coe_mul]; norm_num
theorem h1 : Ideal.ofBits .f32 0x3F900000#32 = ((9 / 8 : ℝ) : EReal) := by
  simp [Ideal.ofBits, Ideal.ieee, -EReal.coe_mul]; norm_num
theorem w2 : Ideal.ofBits .f32 0x3FA00000#32 = ((5 / 4 : ℝ) : EReal) := by
  simp [Ideal.ofBits, Ideal.ieee, -EReal.coe_mul]; norm_num
theorem h2 : Ideal.ofBits .f32 0x3F600000#32 = ((7 / 8 : ℝ) : EReal) := by
  simp [Ideal.ofBits, Ideal.ieee, -EReal.coe_mul]; norm_num

theorem kw0 : Ideal.ofBits .f32 0x3BC00000#32 = ((3 / 8 * (1 / 64) : ℝ) : EReal) := by
  simp [Ideal.ofBits, Ideal.ieee, -EReal.coe_mul]; norm_num
theorem kh0 : Ideal.ofBits .f32 0x3C000000#32 = ((1 / 2 * (1 / 64) : ℝ) : EReal) := by
  simp [Ideal.ofBits, Ideal.ieee, -EReal.coe_mul]; norm_num
theorem kw1 : Ideal.ofBits .f32 0x3C180000#32 = ((19 / 32 * (1 / 64) : ℝ) : EReal) := by
  simp [Ideal.ofBits, Ideal.ieee, -EReal.coe_mul]; norm_num
theorem kh1 : Ideal.ofBits .f32 0x3C900000#32 = ((9 / 8 * (1 / 64) : ℝ) : EReal) := by
  simp [Ideal.ofBits, Ideal.ieee, -EReal.coe_mul]; norm_num
theorem kw2 : Ideal.ofBits .f32 0x3CA00000#32 = ((5 / 4 * (1 / 64) : ℝ) : EReal) := by
  simp [Ideal.ofBits, Ideal.ieee, -EReal.coe_mul]; norm_num
theorem kh2 : Ideal.ofBits .f32 0x3C600000#32 = ((7 / 8 * (1 / 64) : ℝ) : EReal) := by
  simp [Ideal.ofBits, Ideal.ieee, -EReal.coe_mul]; norm_num

end Cert.Proof.Consts
-- ==== Proof.Cell.lean ====
/-
  What both programs compute for one cell: the six numbers of its box and its class number, from the cell's 85 scores.
-/
module

public import proofs.«01_k».proof.Proof.MinRow
public import proofs.«01_k».proof.Proof.Consts

@[expose] public section

noncomputable section

namespace Cert.Proof.Cell

open Idealize.ShloMosaic

/-- The sigmoid. -/
def sg (v : EReal) : EReal := Ideal.div 1 (1 + Ideal.exp (-v))

/-- The box of a cell at `(gx, gy)` under an anchor of `aw` by `ah` (as shares of the picture): zero unless the
    detection passes the threshold. -/
def box (z : Fin 85 → EReal) (thr gx gy aw ah : EReal) (j : Fin 6) : EReal :=
  if thr < sg (z 4) then
    ![(sg (z 0) + gx) * ((1 / 64 : ℝ) : EReal), (sg (z 1) + gy) * ((1 / 64 : ℝ) : EReal), Ideal.exp (z 2) * aw,
      Ideal.exp (z 3) * ah, sg (z 4), Ideal.div 1 (Soft.total (Soft.cls z))] j
  else 0

/-- The class number of a cell whose first best class is `k`: minus one unless the detection passes the threshold. -/
def id (z : Fin 85 → EReal) (thr : EReal) (k : Fin 80) : BitVec 32 :=
  if thr < sg (z 4) then BitVec.ofNat 32 k.val else 4294967295#32

theorem zero_sub (v : EReal) : 0 - v = -v := by rw [sub_eq_add_neg, zero_add]

/-- Dividing by 64 is multiplying by 1/64. -/
theorem div64 (v : EReal) : Ideal.div v ((64 : ℝ) : EReal) = v * ((1 / 64 : ℝ) : EReal) :=
  Ideal.div_coe (by norm_num) v

/-- An anchor's extent divided by 64 before or after the product. -/
theorem mul_div64 (v : EReal) (a : ℝ) : Ideal.div (v * (a : EReal)) ((64 : ℝ) : EReal) = v * ((a * (1 / 64) : ℝ) : EReal) := by
  rw [div64, mul_assoc, EReal.coe_mul]

end Cert.Proof.Cell
-- ==== Proof.KCell.lean ====
/-
  The kernel's block read at one cell: lane `i` of the 85 rows it loads.
-/
module

public import proofs.«01_k».proof.Proof.KRun
public import proofs.«01_k».proof.Proof.Cell

@[expose] public section

set_option maxRecDepth 16384

noncomputable section

namespace Cert.Proof.Ker

open Idealize.ShloMosaic Idealize.ShloMosaic.TcCoe
open Cert.KernelIdeal Cert.KernelIdeal.Gen

variable (X : FVec Ideal S1x85x4096 .f32) (i : Fin 4096)

/-- The cell's 85 scores. -/
def scores : Fin 85 → EReal := fun k => X (ix3 0 k i)

theorem rows_at (k : Fin 85) : k0_pay2 (F := Ideal) X (ix2 k i) = scores X i k := by
  pointwise [k0_pay2]
  rfl

/-- The rows that hold class scores are the ones from the fifth on. -/
theorem isClass_words : ∀ k : Fin 85, IntOp.cmpi .sge (BitVec.ofNat 32 k.val) 5#32 = if 5 ≤ k.val then 1#1 else 0#1 := by
  decide +kernel

theorem isClass (k : Fin 85) : k0_pay13 (ix2 k i) = if 5 ≤ k.val then 1#1 else 0#1 := by
  rw [← isClass_words k]
  pointwise [k0_pay13]

/-- The scores with minus infinity in the rows before the classes. -/
theorem masked_at (k : Fin 85) : k0_pay14 (F := Ideal) (k0_pay2 (F := Ideal) X) (ix2 k i) = if 5 ≤ k.val then scores X i k else ⊥ := by
  have h : k0_pay14 (F := Ideal) (k0_pay2 (F := Ideal) X) (ix2 k i)
      = Scalar.select (k0_pay13 (ix2 k i)) (k0_pay2 (F := Ideal) X (ix2 k i)) (Ideal.ofBits .f32 0xFF800000#32) := by
    pointwise [k0_pay14]
  rw [h, isClass, rows_at, Consts.ninf]
  split <;> rfl

/-- The greatest class score. -/
theorem top_at : k0_pay15 (F := Ideal) (k0_pay2 (F := Ideal) X) (ix2 0 i) = Soft.top (Soft.cls (scores X i)) := by
  have h : k0_pay15 (F := Ideal) (k0_pay2 (F := Ideal) X) (ix2 0 i)
      = Finset.fold max (Ideal.ofBits .f32 0xFF800000#32) (fun k : Fin 85 => (k0_pay14 (F := Ideal) (k0_pay2 (F := Ideal) X) (ix2 k i) : EReal)) Finset.univ := by
    pointwise [k0_pay15]
  rw [h, Consts.ninf]
  refine Soft.max_rows (scores X i) _ (fun k hk => ?_) fun k hk => ?_
  · rw [masked_at, if_neg (by omega)]
  · rw [masked_at, if_pos hk]

/-- The sigmoid of the first eight rows. -/
theorem sigmoid_at (k : Fin 8) : k0_pay4 (F := Ideal) X (ix2 k i) = Cell.sg (scores X i ⟨k.val, by omega⟩) := by
  have h : k0_pay4 (F := Ideal) X (ix2 k i) = Ideal.div 1 (1 + Ideal.exp (0 - k0_pay2 (F := Ideal) X (ix2 ⟨k.val, by omega⟩ i))) := by
    pointwise [k0_pay4, k0_pay3]
  rw [h, rows_at, Cell.zero_sub]
  rfl

theorem exp_at (k : Fin 8) : k0_pay5 (F := Ideal) X (ix2 k i) = Ideal.exp (scores X i ⟨k.val, by omega⟩) := by
  have h : k0_pay5 (F := Ideal) X (ix2 k i) = Ideal.exp (k0_pay2 (F := Ideal) X (ix2 ⟨k.val, by omega⟩ i)) := by
    pointwise [k0_pay5, k0_pay3]
  rw [h, rows_at]

/-- The threshold's comparison. -/
theorem passes_at (thr : Elt Ideal .f32) : k0_pay16 (F := Ideal) thr (k0_pay4 (F := Ideal) X) (ix2 0 i) = BitVec.ofBool (decide ((thr : EReal) < Cell.sg (scores X i 4))) := by
  have h : k0_pay16 (F := Ideal) thr (k0_pay4 (F := Ideal) X) (ix2 0 i) = BitVec.ofBool (decide ((thr : EReal) < k0_pay4 (F := Ideal) X (ix2 4 i))) := by
    pointwise [k0_pay16, k0_pay12]
  rw [h, sigmoid_at]
  rfl

end Cert.Proof.Ker
-- ==== Proof.KOut.lean ====
/-
  The two blocks a grid point of the kernel stores, read at one cell.
-/
module

public import proofs.«01_k».proof.Proof.KCell

@[expose] public section

set_option maxRecDepth 16384

noncomputable section

namespace Cert.Proof.Ker

open Idealize.ShloMosaic Idealize.ShloMosaic.TcCoe
open Cert.KernelIdeal Cert.KernelIdeal.Gen

/-- The lane's column in the 64 by 64 grid, as the kernel computes it. -/
theorem col_word : ∀ i : Fin 4096, (k0_pay6 : IVec S1x4096 32) (ix2 0 i) = BitVec.ofNat 32 (i.val % 64) := by
  intro i
  pointwise [k0_pay6]
  revert i
  decide +kernel

variable (X : FVec Ideal S1x85x4096 .f32) (i : Fin 4096)

/-- The first coordinate of a box. -/
theorem x_at : k0_pay9 (F := Ideal) (k0_pay4 (F := Ideal) X) k0_pay6 (ix2 0 i)
    = (Cell.sg (scores X i 0) + FloatOps.sitofp (F := Ideal) .f32 (BitVec.ofNat 32 (i.val % 64))) * ((1 / 64 : ℝ) : EReal) := by
  have h : k0_pay9 (F := Ideal) (k0_pay4 (F := Ideal) X) k0_pay6 (ix2 0 i)
      = (k0_pay4 (F := Ideal) X (ix2 0 i) + FloatOps.sitofp (F := Ideal) .f32 ((k0_pay6 : IVec S1x4096 32) (ix2 0 i))) * Ideal.ofBits .f32 0x3C800000#32 := by
    pointwise [k0_pay9]
  rw [h, col_word, sigmoid_at, Consts.inv64]
  rfl

theorem row_word : ∀ i : Fin 4096, Scalar.select
      (IntOp.andi
        (IntOp.cmpi CmpIPredicate.ne
          (IntOp.subi (BitVec.setWidth 32 (IntOp.cmpi CmpIPredicate.sgt (BitVec.ofNat 32 i.val) 0#32))
            (BitVec.setWidth 32 (IntOp.cmpi CmpIPredicate.slt (BitVec.ofNat 32 i.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 i.val) 64#32) 0#32))
      (IntOp.subi (IntOp.divsi ArithUnit.vector (BitVec.ofNat 32 i.val) 64#32) 1#32)
      (IntOp.divsi ArithUnit.vector (BitVec.ofNat 32 i.val) 64#32) = BitVec.ofNat 32 (i.val / 64) := by
  decide +kernel

/-- The second coordinate before its scale. -/
theorem y_at : k0_pay10 (F := Ideal) (k0_pay4 (F := Ideal) X) (iota Kind.tc S1x4096 32 [1] iota_S1x4096_d1_w32) (ix2 0 i)
    = Cell.sg (scores X i 1) + FloatOps.sitofp (F := Ideal) .f32 (BitVec.ofNat 32 (i.val / 64)) := by
  pointwise [k0_pay10]
  exact congrArg₂ (fun a b : EReal => a + b) (sigmoid_at X i 1) (congrArg (FloatOps.sitofp (F := Ideal) .f32) (row_word i))

/-- The sum of the exponentials over the class rows. -/
theorem total_at : (∑ k : Fin 85, Scalar.select (k0_pay13 (ix2 k i))
      (Ideal.exp (k0_pay2 (F := Ideal) X (ix2 k i) - k0_pay15 (F := Ideal) (k0_pay2 (F := Ideal) X) (ix2 0 i)) : EReal) 0)
    = Soft.total (Soft.cls (scores X i)) := by
  rw [Soft.sum_rows _ fun k hk => ?_]
  · refine Finset.sum_congr rfl fun k _ => ?_
    rw [isClass, if_pos (by simp), rows_at, top_at]
    rfl
  · rw [isClass, if_neg (by omega)]
    rfl

theorem select_dec {α : Type} (p : Prop) [Decidable p] (a b : α) :
    Scalar.select (BitVec.ofBool (decide p)) a b = if p then a else b := by
  by_cases h : p <;> simp [h, Scalar.select]

/-- Eight rows stacked, read at one of them. -/
theorem stack_at (a b c d e f g h : FVec Ideal S1x4096 .f32) (k : Fin 8) :
    concatenate S8x4096 0 [⟨S1x4096, a⟩, ⟨S1x4096, b⟩, ⟨S1x4096, c⟩, ⟨S1x4096, d⟩, ⟨S1x4096, e⟩, ⟨S1x4096, f⟩, ⟨S1x4096, g⟩, ⟨S1x4096, h⟩]
        concatenates_S1x4096_S1x4096_S1x4096_S1x4096_S1x4096_S1x4096_S1x4096_S1x4096_S8x4096_d0 (ix2 k i)
      = (![a (ix2 0 i), b (ix2 0 i), c (ix2 0 i), d (ix2 0 i), e (ix2 0 i), f (ix2 0 i), g (ix2 0 i), h (ix2 0 i)] : Fin 8 → EReal) k := by
  pointwise
  fin_vals k with hk
  all_goals simp only [hk, Nat.reduceSub, Nat.reduceLT, ↓reduceDIte]
  · obtain rfl : k = 0 := Fin.ext hk
    rfl
  · obtain rfl : k = 1 := Fin.ext hk
    rfl
  · obtain rfl : k = 2 := Fin.ext hk
    rfl
  · obtain rfl : k = 3 := Fin.ext hk
    rfl
  · obtain rfl : k = 4 := Fin.ext hk
    rfl
  · obtain rfl : k = 5 := Fin.ext hk
    rfl
  · obtain rfl : k = 6 := Fin.ext hk
    rfl
  · obtain rfl : k = 7 := Fin.ext hk
    rfl

/-- The rows of the stack that are not a cell coordinate. -/
def rowY (v78 v79 : FVec Ideal S1x4096 .f32) : FVec Ideal S1x4096 .f32 := mulf v78 v79
def rowW (v21 : FVec Ideal S8x4096 .f32) (v68 : Ideal .f32) : FVec Ideal S1x4096 .f32 :=
  mulf (extractStridedSlice S1x4096 ![2, 0] v21 slices_S8x4096_o2_0_S1x4096) (broadcast S1x4096 v68)
def rowH (v21 : FVec Ideal S8x4096 .f32) (v72 : Ideal .f32) : FVec Ideal S1x4096 .f32 :=
  mulf (extractStridedSlice S1x4096 ![3, 0] v21 slices_S8x4096_o3_0_S1x4096) (broadcast S1x4096 v72)
def rowC (v12 : FVec Ideal S85x4096 .f32) : FVec Ideal S1x4096 .f32 :=
  divf (broadcast S1x4096 (Scalar.ofBits .f32 0x3F800000#32))
    (shapeCast S1x4096 (multiReduction .add [0] S4096
      (select k0_pay13 (exp (subf v12 (broadcastTo S85x4096 (k0_pay15 v12) broadcasts_S1x4096_S85x4096)))
        (broadcast S85x4096 (Scalar.ofBits .f32 0x00000000#32)))
      0x00000000#32 reduces_S85x4096_S4096 (.inl rfl) rfl) shapeCasts_S4096_S1x4096)

/-- The stack under the mask, transposed, without its last two rows. -/
def masked (thr : Elt Ideal .f32) (v20 : FVec Ideal S8x4096 .f32) (B : FVec Ideal S8x4096 .f32) : FVec Ideal S8x4096 .f32 :=
  select (broadcastTo S8x4096 (shapeCast S1x4096 (k0_pay16 thr v20) shapeCasts_S1x4096_S1x4096) broadcasts_S1x4096_S8x4096) B
    (broadcast S8x4096 (Scalar.ofBits .f32 0x00000000#32))

theorem pay18_eq (thr : Elt Ideal .f32) (v12 : FVec Ideal S85x4096 .f32) (v20 v21 : FVec Ideal S8x4096 .f32) (v68 v72 : Ideal .f32)
    (v76 v78 v79 : FVec Ideal S1x4096 .f32) : k0_pay18 (F := Ideal) thr v12 v20 v21 v68 v72 v76 v78 v79
      = masked thr v20 (concatenate S8x4096 0 [⟨S1x4096, v76⟩, ⟨S1x4096, rowY v78 v79⟩, ⟨S1x4096, rowW v21 v68⟩,
          ⟨S1x4096, rowH v21 v72⟩, ⟨S1x4096, k0_pay12 v20⟩, ⟨S1x4096, rowC v12⟩, ⟨S1x4096, k0_pay12 v20⟩, ⟨S1x4096, k0_pay12 v20⟩]
        concatenates_S1x4096_S1x4096_S1x4096_S1x4096_S1x4096_S1x4096_S1x4096_S1x4096_S8x4096_d0) := rfl

theorem masked_block_at (thr : Elt Ideal .f32) (v20 B : FVec Ideal S8x4096 .f32) (j : Fin 6) :
    k0_pay1 (masked thr v20 B) (ix2 i j)
      = Scalar.select (k0_pay16 (F := Ideal) thr v20 (ix2 0 i)) (B (ix2 ⟨j.val, by omega⟩ i) : EReal) 0 := by
  pointwise [k0_pay1, masked]

theorem rowY_at (a : FVec Ideal S1x4096 .f32) : rowY a k0_pay11 (ix2 0 i) = (a (ix2 0 i) : EReal) * Ideal.ofBits .f32 0x3C800000#32 := by
  pointwise [rowY, k0_pay11]
theorem rowW_at (a : FVec Ideal S8x4096 .f32) (v : Ideal .f32) : rowW a v (ix2 0 i) = (a (ix2 2 i) : EReal) * v := by
  pointwise [rowW]
theorem rowH_at (a : FVec Ideal S8x4096 .f32) (v : Ideal .f32) : rowH a v (ix2 0 i) = (a (ix2 3 i) : EReal) * v := by
  pointwise [rowH]
theorem row4_at (a : FVec Ideal S8x4096 .f32) : k0_pay12 (F := Ideal) a (ix2 0 i) = (a (ix2 4 i) : EReal) := by
  pointwise [k0_pay12]
theorem rowC_at (v : FVec Ideal S85x4096 .f32) : rowC v (ix2 0 i) = Ideal.div 1 (∑ k : Fin 85, Scalar.select (k0_pay13 (ix2 k i))
      (Ideal.exp (v (ix2 k i) - k0_pay15 (F := Ideal) v (ix2 0 i)) : EReal) 0) := by
  pointwise [rowC]

/-- The box block. -/
theorem block_at (thr : Elt Ideal .f32) (w : BitVec 32) (j : Fin 6) :
    k0_pay1 (k0_pay18 (F := Ideal) thr (k0_pay2 X) (k0_pay4 X) (k0_pay5 X) (k0_pay7 w) (k0_pay8 w)
        (k0_pay9 (k0_pay4 X) k0_pay6) (k0_pay10 (k0_pay4 X) (iota Kind.tc S1x4096 32 [1] iota_S1x4096_d1_w32)) k0_pay11) (ix2 i j)
      = Cell.box (scores X i) thr (FloatOps.sitofp (F := Ideal) .f32 (BitVec.ofNat 32 (i.val % 64)))
          (FloatOps.sitofp (F := Ideal) .f32 (BitVec.ofNat 32 (i.val / 64))) (k0_pay7 (F := Ideal) w) (k0_pay8 (F := Ideal) w) j := by
  rw [pay18_eq, masked_block_at, stack_at, passes_at, select_dec, rowY_at, rowW_at, rowH_at, row4_at, rowC_at, total_at, x_at, y_at,
    exp_at, exp_at, sigmoid_at, Consts.inv64]
  unfold Cell.box
  refine if_congr Iff.rfl ?_ rfl
  fin_cases j <;> rfl

/-- The least row that holds the greatest class score. -/
theorem first_row' (k : Fin 80) (hk : Soft.top (Soft.cls (scores X i)) ≤ Soft.cls (scores X i) k)
    (hlt : ∀ j, j < k → Soft.cls (scores X i) j < Soft.top (Soft.cls (scores X i))) :
    IntOp.subi (Finset.fold IntOp.minsi 2147483647#32 (fun x : Fin 85 => Scalar.select
        (IntOp.andi (k0_pay13 (ix2 x i)) (BitVec.ofBool (decide
          ((k0_pay15 (F := Ideal) (k0_pay2 (F := Ideal) X) (ix2 0 i) : EReal) ≤ k0_pay14 (F := Ideal) (k0_pay2 (F := Ideal) X) (ix2 x i)))))
        (BitVec.ofNat 32 x.val) 85#32) Finset.univ) 5#32 = BitVec.ofNat 32 k.val := by
  refine Soft.first_row _ k ?_ fun x hx => ?_
  · rw [isClass, if_pos (by simp), top_at, masked_at, if_pos (by simp)]
    have e : Soft.top (Soft.cls (scores X i)) ≤ scores X i ⟨5 + k.val, by omega⟩ := hk
    rw [decide_eq_true e]
    rfl
  · rw [isClass, top_at, masked_at]
    by_cases h5 : 5 ≤ x.val
    · rw [if_pos h5, if_pos h5]
      have hj : x.val - 5 < 80 := by omega
      have e : Soft.cls (scores X i) ⟨x.val - 5, hj⟩ = scores X i x := by
        unfold Soft.cls
        congr 1
        ext
        simp only
        omega
      have := hlt ⟨x.val - 5, hj⟩ (Fin.lt_def.mpr (by simp only; omega))
      rw [e] at this
      rw [decide_eq_false (not_le.mpr this)]
      rfl
    · rw [if_neg h5]
      exact (by decide : ∀ b : BitVec 1, IntOp.andi 0#1 b = 0#1) _

/-- The class number block. -/
theorem ids_at (thr : Elt Ideal .f32) (k : Fin 80) (hk : Soft.top (Soft.cls (scores X i)) ≤ Soft.cls (scores X i) k)
    (hlt : ∀ j, j < k → Soft.cls (scores X i) j < Soft.top (Soft.cls (scores X i))) :
    k0_pay17 (F := Ideal) thr (k0_pay2 X) (k0_pay4 X) (ix3 0 0 i) = Cell.id (scores X i) thr k := by
  have h : k0_pay17 (F := Ideal) thr (k0_pay2 X) (k0_pay4 X) (ix3 0 0 i)
      = Scalar.select (k0_pay16 (F := Ideal) thr (k0_pay4 X) (ix2 0 i))
          (IntOp.subi (Finset.fold IntOp.minsi 2147483647#32 (fun x : Fin 85 => Scalar.select
            (IntOp.andi (k0_pay13 (ix2 x i)) (BitVec.ofBool (decide
              ((k0_pay15 (F := Ideal) (k0_pay2 (F := Ideal) X) (ix2 0 i) : EReal) ≤ k0_pay14 (F := Ideal) (k0_pay2 (F := Ideal) X) (ix2 x i)))))
            (BitVec.ofNat 32 x.val) 85#32) Finset.univ) 5#32) 4294967295#32 := by
    pointwise [k0_pay17]
  rw [h, passes_at, select_dec, first_row' X i k hk hlt]
  rfl

end Cert.Proof.Ker
-- ==== Proof.KBlock.lean ====
/-
  The two arrays the region leaves, entry by entry, in terms of the block a grid point computes.
-/
module

public import proofs.«01_k».proof.Proof.KRun
public import proofs.«01_k».proof.Proof.KOut

@[expose] public section

set_option maxRecDepth 16384

noncomputable section

namespace Cert.Proof.Ker

open Idealize.ShloMosaic Idealize.ShloMosaic.TcCoe Idealize.SL.Sem
open Cert.KernelIdeal Cert.KernelIdeal.Gen

variable (m : (ℓ : Loc nD τ sig) → Buf (Elt Ideal) ℓ)

/-- Where each window's block lies at a grid point. -/
theorem idx : ∀ t : Fin cfg0.N, win0_0.index t = ![0, 0] ∧ win0_1.index t = ![t.val, 0, 0]
    ∧ win0_2.index t = ![t.val, 0] ∧ win0_3.index t = ![t.val, 0, 0] :=
  (by decide +kernel : ∀ t : Fin grid0.N, _)

/-- A grid point as one of the forty-eight planes. -/
def plane (t : Fin cfg0.N) : Fin 48 := ⟨t.val, t.isLt⟩

/-- The anchor a grid point selects. -/
def word (t : Fin cfg0.N) : BitVec 32 :=
  Scalar.select (Scalar.andi (Scalar.xori (Scalar.cmpi .slt (Scalar.remsi (BitVec.ofNat 32 (grid0.coords t 0).val) 3#32) 0#32) 0#1)
      (Scalar.cmpi .ne (Scalar.remsi (BitVec.ofNat 32 (grid0.coords t 0).val) 3#32) 0#32))
    (Scalar.addi (Scalar.remsi (BitVec.ofNat 32 (grid0.coords t 0).val) 3#32) 3#32)
    (Scalar.remsi (BitVec.ofNat 32 (grid0.coords t 0).val) 3#32)

theorem word_eq : ∀ t : Fin cfg0.N, word t = BitVec.ofNat 32 (t.val % 3) :=
  (by decide +kernel : ∀ t : Fin grid0.N, _)

/-- One cell of a grid point's block is one cell of its plane. -/
theorem scores_blk (c : Dev nD) (t : Fin cfg0.N) (i : Fin 4096) (k : Fin 85) :
    scores (iblk m c 1 t) i k = (V m c main_v0 : FVec Ideal S48x85x4096 .f32) (ix3 (plane t) k i) := by
  unfold scores plane
  blk_ext [iblk, idx t]

/-- The threshold every grid point reads. -/
theorem thr_blk (c : Dev nD) (t : Fin cfg0.N) (h : 0 < (Rect.unit (s := S1x1) ![0,0] ![1,1] inb_S1x1_S1x1_0_0).shape.numel) :
    View.ld (iblk m c 0 t) (Rect.unit ![0,0] ![1,1] inb_S1x1_S1x1_0_0) (Shape.Idx.first h)
      = (V m c main_v1 : FVec Ideal S1x1 .f32) (ix2 0 0) := by
  pointwise
  blk_ext [iblk, idx t]

/-- A grid point's first output block lies over one plane's rows. -/
theorem place_boxes (t : Fin cfg0.N) (i : Fin 4096) (j : Fin 6) :
    ((View.whole main_v2_0).slice (win0_2.rect t)).emb (ix2 i j) = ix2 ⟨(plane t).val * 4096 + i.val, by omega⟩ j := by
  unfold plane
  blk_ext [idx t]

/-- A grid point's second output block is one plane's row. -/
theorem place_ids (t : Fin cfg0.N) (i : Fin 4096) :
    ((View.whole main_v2_1).slice (win0_3.rect t)).emb (ix3 0 0 i) = ix3 (plane t) 0 i := by
  unfold plane
  blk_ext [idx t]

/-- The boxes the region leaves. -/
theorem boxesArr (c : Dev nD) (G : FVec Ideal S196608x6 .f32)
    (hG : ∀ (t : Fin 48) (i : Fin 4096) (j : Fin 6), (G (ix2 ⟨t.val * 4096 + i.val, by omega⟩ j) : EReal)
      = Cell.box (fun k => (V m c main_v0 : FVec Ideal S48x85x4096 .f32) (ix3 t k i)) ((V m c main_v1 : FVec Ideal S1x1 .f32) (ix2 0 0))
          (FloatOps.sitofp (F := Ideal) .f32 (BitVec.ofNat 32 (i.val % 64)))
          (FloatOps.sitofp (F := Ideal) .f32 (BitVec.ofNat 32 (i.val / 64)))
          (k0_pay7 (F := Ideal) (BitVec.ofNat 32 (t.val % 3))) (k0_pay8 (F := Ideal) (BitVec.ofNat 32 (t.val % 3))) j) :
    (dats m 0 c).arrAt 2 (cfgs 0).N = G := by
  refine (dats m 0 c).arrAt_eq_of_covers 2 _ (by decide +kernel) fun t _ y => ?_
  blk_simp
  rw [after0_2]
  unfold outsAt0
  frame_out
  obtain ⟨i, j, rfl⟩ : ∃ (i : Fin 4096) (j : Fin 6), y = ix2 i j := ⟨y 0, y 1, eq_ix2 y⟩
  refine (block_at (iblk m c 1 t) i _ (word t) j).trans ?_
  refine Eq.trans ?_ (congrArg G (place_boxes t i j)).symm
  refine Eq.trans ?_ (hG (plane t) i j).symm
  rw [word_eq, thr_blk, show scores (iblk m c 1 t) i = fun k => (V m c main_v0 : FVec Ideal S48x85x4096 .f32) (ix3 (plane t) k i) from
    funext fun k => scores_blk m c t i k]
  rfl

/-- The identities the region leaves. -/
theorem idsArr (c : Dev nD) (G : IVec S48x1x4096 32)
    (hG : ∀ (t : Fin 48) (i : Fin 4096), ∃ k : Fin 80,
      Soft.top (Soft.cls fun k => (V m c main_v0 : FVec Ideal S48x85x4096 .f32) (ix3 t k i))
          ≤ Soft.cls (fun k => (V m c main_v0 : FVec Ideal S48x85x4096 .f32) (ix3 t k i)) k
      ∧ (∀ j, j < k → Soft.cls (fun k => (V m c main_v0 : FVec Ideal S48x85x4096 .f32) (ix3 t k i)) j
          < Soft.top (Soft.cls fun k => (V m c main_v0 : FVec Ideal S48x85x4096 .f32) (ix3 t k i)))
      ∧ G (ix3 t 0 i) = Cell.id (fun k => (V m c main_v0 : FVec Ideal S48x85x4096 .f32) (ix3 t k i))
          ((V m c main_v1 : FVec Ideal S1x1 .f32) (ix2 0 0)) k) :
    (dats m 0 c).arrAt 3 (cfgs 0).N = G := by
  refine (dats m 0 c).arrAt_eq_of_covers 3 _ (by decide +kernel) fun t _ y => ?_
  blk_simp
  rw [after0_3]
  unfold outsAt0
  frame_out
  obtain ⟨u, v, i, rfl⟩ : ∃ (u v : Fin 1) (i : Fin 4096), y = ix3 u v i := ⟨y 0, y 1, y 2, eq_ix3 y⟩
  obtain rfl : u = 0 := Subsingleton.elim _ _
  obtain rfl : v = 0 := Subsingleton.elim _ _
  obtain ⟨k, h1, h2, h3⟩ := hG (plane t) i
  have e : scores (iblk m c 1 t) i = fun k => (V m c main_v0 : FVec Ideal S48x85x4096 .f32) (ix3 (plane t) k i) :=
    funext fun k => scores_blk m c t i k
  refine (ids_at (iblk m c 1 t) i _ k (e ▸ h1) (e ▸ h2)).trans ?_
  refine Eq.trans ?_ (congrArg G (place_ids t i)).symm
  refine Eq.trans ?_ h3.symm
  rw [thr_blk, e]

end Cert.Proof.Ker
-- ==== Proof.RefVal.lean ====
/-
  What the reference's two results are, as functions of its two arguments, named stage by stage, and that the run
  leaves exactly them.
-/
module

public import proofs.«01_k».proof.Proof.RefRun

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The head's 85 channels, one row per channel, one column per anchor position. -/
def rows (x : FVec F S16x255x64x64 .f32) : FVec F S85x196608 .f32 :=
  shapeCast S85x196608
    (transpose S85x48x4096 [1, 0, 2] (shapeCast S48x85x4096 x shapeCasts_S16x255x64x64_S48x85x4096)
      transposes_S48x85x4096_S85x48x4096_1_0_2)
    shapeCasts_S85x48x4096_S85x196608

/-- The 64 by 64 table whose entry is its column's number. -/
def gridTable : FVec F S64x64 .f32 :=
  shapeCast S64x64
    (broadcastInDim S64x1x1x64 ![0, 1, 2, 3] bcast_S1x1x1x64_S64x1x1x64_0_1_2_3
      (shapeCast S1x1x1x64
        (broadcastInDim S1x64 ![1] bcast_S64_S1x64_1 (sitofp .f32 (iotaInDim S64 32 0) : FVec F S64 .f32))
        shapeCasts_S1x64_S1x1x1x64))
    shapeCasts_S64x1x1x64_S64x64

/-- A 64 by 64 table laid out at every anchor position. -/
def spread (g : FVec F S64x64 .f32) : FVec F S196608 .f32 :=
  shapeCast S196608
    (broadcastInDim S48x4096 ![0, 1] bcast_S1x4096_S48x4096_0_1
      (shapeCast S1x4096 (shapeCast S4096 g shapeCasts_S64x64_S4096) shapeCasts_S4096_S1x4096))
    shapeCasts_S48x4096_S196608

/-- The horizontal cell number of every anchor position. -/
def gridX : FVec F S196608 .f32 := spread gridTable

/-- The vertical cell number of every anchor position. -/
def gridY : FVec F S196608 .f32 := spread (transpose S64x64 [1, 0] gridTable transposes_S64x64_S64x64_1_0)

/-- The anchors, one row per anchor: width, height. -/
def anchors : FVec F S3x2 .f32 :=
  shapeCast S3x2 (fun i => FloatOps.ofBits .f32 (lit0 (S6.rowMajor i)) : FVec F S6 .f32) shapeCasts_S6_S3x2

/-- One column of the anchors laid out at every anchor position. -/
def anchSpread (a : FVec F S3x1 .f32) : FVec F S196608 .f32 :=
  shapeCast S196608
    (broadcastInDim S48x4096 ![0] bcast_S48_S48x4096_0
      (shapeCast S48
        (broadcastInDim S16x3 ![0, 1] bcast_S1x3_S16x3_0_1
          (shapeCast S1x3 (shapeCast S3 a shapeCasts_S3x1_S3) shapeCasts_S3_S1x3))
        shapeCasts_S16x3_S48))
    shapeCasts_S48x4096_S196608

def anchW : FVec F S196608 .f32 := anchSpread (extractStridedSlice S3x1 ![0, 0] anchors slices_S3x2_S3x1_0_0)
def anchH : FVec F S196608 .f32 := anchSpread (extractStridedSlice S3x1 ![0, 1] anchors slices_S3x2_S3x1_0_1)

/-- One number at every anchor position. -/
def splat (b : BitVec 32) : FVec F S196608 .f32 := broadcastInDim S196608 ![] bcast_S_S196608 (constant S_ .f32 b)

/-- The sigmoid, as the reference spells it. -/
def sigm (r : FVec F S196608 .f32) : FVec F S196608 .f32 :=
  Host.divf (splat 0x3F800000#32) (addf (splat 0x3F800000#32) (Host.exp (Host.negf r)))

/-- The first five rows of the head. -/
def row0 (R : FVec F S85x196608 .f32) : FVec F S196608 .f32 :=
  shapeCast S196608 (extractStridedSlice S1x196608 ![0, 0] R slices_S85x196608_S1x196608_0_0) shapeCasts_S1x196608_S196608
def row1 (R : FVec F S85x196608 .f32) : FVec F S196608 .f32 :=
  shapeCast S196608 (extractStridedSlice S1x196608 ![1, 0] R slices_S85x196608_S1x196608_1_0) shapeCasts_S1x196608_S196608
def row2 (R : FVec F S85x196608 .f32) : FVec F S196608 .f32 :=
  shapeCast S196608 (extractStridedSlice S1x196608 ![2, 0] R slices_S85x196608_S1x196608_2_0) shapeCasts_S1x196608_S196608
def row3 (R : FVec F S85x196608 .f32) : FVec F S196608 .f32 :=
  shapeCast S196608 (extractStridedSlice S1x196608 ![3, 0] R slices_S85x196608_S1x196608_3_0) shapeCasts_S1x196608_S196608
def row4 (R : FVec F S85x196608 .f32) : FVec F S196608 .f32 :=
  shapeCast S196608 (extractStridedSlice S1x196608 ![4, 0] R slices_S85x196608_S1x196608_4_0) shapeCasts_S1x196608_S196608

/-- The six columns of the boxes before the mask. -/
def cx (R : FVec F S85x196608 .f32) : FVec F S196608 .f32 := Host.divf (addf (sigm (row0 R)) gridX) (splat 0x42800000#32)
def cy (R : FVec F S85x196608 .f32) : FVec F S196608 .f32 := Host.divf (addf (sigm (row1 R)) gridY) (splat 0x42800000#32)
def cw (R : FVec F S85x196608 .f32) : FVec F S196608 .f32 := Host.divf (mulf (Host.exp (row2 R)) anchW) (splat 0x42800000#32)
def ch (R : FVec F S85x196608 .f32) : FVec F S196608 .f32 := Host.divf (mulf (Host.exp (row3 R)) anchH) (splat 0x42800000#32)
def det (R : FVec F S85x196608 .f32) : FVec F S196608 .f32 := sigm (row4 R)

/-- The class scores, one row per anchor position. -/
def cls (R : FVec F S85x196608 .f32) : FVec F S196608x80 .f32 :=
  transpose S196608x80 [1, 0] (extractStridedSlice S80x196608 ![5, 0] R slices_S85x196608_S80x196608_5_0)
    transposes_S80x196608_S196608x80_1_0

/-- One number per row, across the row. -/
def across (v : FVec F S196608 .f32) : FVec F S196608x80 .f32 :=
  broadcastInDim S196608x80 ![0, 1] bcast_S196608x1_S196608x80_0_1 (broadcastInDim S196608x1 ![0] bcast_S196608_S196608x1_0 v)

/-- The greatest score of each row. -/
def top (C : FVec F S196608x80 .f32) : FVec F S196608 .f32 :=
  maximumf (splat 0xFF800000#32)
    (Host.reduce FloatOps.maximumf C (constant S_ .f32 0xFF800000#32) reducesTo_S196608x80_S196608_d1 h_S_)

/-- The exponentials under the softmax. -/
def expo (C : FVec F S196608x80 .f32) : FVec F S196608x80 .f32 := Host.exp (subf C (across (top C)))

/-- The softmax of an array of exponentials. -/
def prob (E : FVec F S196608x80 .f32) : FVec F S196608x80 .f32 :=
  Host.divf E (across (Host.reduceAdd E (constant S_ .f32 0x00000000#32) reducesTo_S196608x80_S196608_d1 h_S_))

/-- The greatest probability of each row. -/
def conf (P : FVec F S196608x80 .f32) : FVec F S196608 .f32 :=
  Host.reduce FloatOps.maximumf P (constant S_ .f32 0xFF800000#32) reducesTo_S196608x80_S196608_d1 h_S_

/-- The first position of the greatest probability of each row. -/
def best (P : FVec F S196608x80 .f32) : IVec S196608 32 := fun j =>
  (Host.argReduce reducer_argmax_f32_i32 P (iotaInDim S196608x80 32 1) (constant S_ .f32 0xFF800000#32) (constantI S_ 32 0#32)
    reducesTo_S196608x80_S196608_d1 h_S_ j).2

/-- Where the detection passes the threshold. -/
def passes (d : FVec F S196608 .f32) (thr : FVec F S_ .f32) : IVec S196608 1 :=
  cmpf .ogt d (broadcastInDim S196608 ![] bcast_S_S196608 thr)

/-- The mask as one column. -/
def maskCol (k : IVec S196608 1) : IVec S196608x1 1 := broadcastInDim S196608x1 ![0] bcast_S196608_S196608x1_0 k

/-- A vector as one column. -/
def col (v : FVec F S196608 .f32) : FVec F S196608x1 .f32 := broadcastInDim S196608x1 ![0] bcast_S196608_S196608x1_0 v

/-- Six vectors as the columns of one array. -/
def stack (a b c d e f : FVec F S196608 .f32) : FVec F S196608x6 .f32 :=
  concatenate S196608x6 1
    [⟨S196608x1, col a⟩, ⟨S196608x1, col b⟩, ⟨S196608x1, col c⟩, ⟨S196608x1, col d⟩, ⟨S196608x1, col e⟩, ⟨S196608x1, col f⟩]
    concatenates_S196608x1_S196608x1_S196608x1_S196608x1_S196608x1_S196608x1_S196608x6_d1

/-- The boxes under the mask: another number where it does not hold. -/
def maskedBoxes (k : IVec S196608x1 1) (b : FVec F S196608x6 .f32) (z : FVec F S_ .f32) : FVec F S196608x6 .f32 :=
  select (broadcastInDim S196608x6 ![0, 1] bcast_S196608x1_S196608x6_0_1 k) b (broadcastInDim S196608x6 ![] bcast_S_S196608x6 z)

/-- The class numbers under the mask: minus one where it does not hold. -/
def maskedIds (k : IVec S196608 1) (b : IVec S196608 32) : IVec S196608 32 :=
  select k b (broadcastInDim S196608 ![] bcast_S_S196608 (constantI S_ 32 4294967295#32))

/-- The boxes. -/
def boxes (x : FVec F S16x255x64x64 .f32) (thr : FVec F S_ .f32) : FVec F S196608x6 .f32 :=
  maskedBoxes (maskCol (passes (det (rows x)) thr))
    (stack (cx (rows x)) (cy (rows x)) (cw (rows x)) (ch (rows x)) (det (rows x)) (conf (prob (expo (cls (rows x))))))
    (constant S_ .f32 0x00000000#32)

/-- The class numbers. -/
def ids (x : FVec F S16x255x64x64 .f32) (thr : FVec F S_ .f32) : IVec S196608 32 :=
  maskedIds (passes (det (rows x)) thr) (best (prob (expo (cls (rows x)))))

/-! ### What each stage leaves -/

theorem at1_v2 (V : Valuation τ sig (Elt F)) :
    after s1 V (no_index (Proc.devRef .tc main_v2)) = rows (V (Proc.devRef .tc main_arg0)) := by
  unfold s1
  after_reads_simp
  try rfl

theorem at1_cst (V : Valuation τ sig (Elt F)) :
    after s1 V (no_index (Proc.devRef .tc main_cst)) = (fun i => FloatOps.ofBits .f32 (lit0 (S6.rowMajor i))) := by
  unfold s1
  after_reads_simp
  try rfl

theorem at2_v11 (V : Valuation τ sig (Elt F)) :
    after s2 V (no_index (Proc.devRef .tc main_v11)) = gridX := by
  unfold s2
  after_reads_simp
  try rfl

theorem at3_v21 (V : Valuation τ sig (Elt F)) :
    after s3 V (no_index (Proc.devRef .tc main_v21)) = gridY := by
  unfold s3
  after_reads_simp
  try rfl

theorem at4_v22 (V : Valuation τ sig (Elt F)) :
    after s4 V (no_index (Proc.devRef .tc main_v22)) = (shapeCast S3x2 (V (Proc.devRef .tc main_cst) : FVec F S6 .f32) shapeCasts_S6_S3x2 : FVec F S3x2 .f32) := by
  unfold s4
  after_reads_simp
  try rfl

theorem at4_v29 (V : Valuation τ sig (Elt F)) :
    after s4 V (no_index (Proc.devRef .tc main_v29)) = anchSpread (extractStridedSlice S3x1 ![0, 0] (shapeCast S3x2 (V (Proc.devRef .tc main_cst) : FVec F S6 .f32) shapeCasts_S6_S3x2 : FVec F S3x2 .f32) slices_S3x2_S3x1_0_0) := by
  unfold s4
  after_reads_simp
  try rfl

theorem at5_v36 (V : Valuation τ sig (Elt F)) :
    after s5 V (no_index (Proc.devRef .tc main_v36)) = anchSpread (extractStridedSlice S3x1 ![0, 1] (V (Proc.devRef .tc main_v22)) slices_S3x2_S3x1_0_1) := by
  unfold s5
  after_reads_simp
  try rfl

theorem at6_v45 (V : Valuation τ sig (Elt F)) :
    after s6 V (no_index (Proc.devRef .tc main_v45)) = addf (sigm (row0 (V (Proc.devRef .tc main_v2)))) (V (Proc.devRef .tc main_v11)) := by
  unfold s6
  after_reads_simp
  try rfl

theorem at7_v54 (V : Valuation τ sig (Elt F)) :
    after s7 V (no_index (Proc.devRef .tc main_v54)) = addf (sigm (row1 (V (Proc.devRef .tc main_v2)))) (V (Proc.devRef .tc main_v21)) := by
  unfold s7
  after_reads_simp
  try rfl

theorem at8_v58 (V : Valuation τ sig (Elt F)) :
    after s8 V (no_index (Proc.devRef .tc main_v58)) = mulf (Host.exp (row2 (V (Proc.devRef .tc main_v2)))) (V (Proc.devRef .tc main_v29)) := by
  unfold s8
  after_reads_simp
  try rfl

theorem at9_v62 (V : Valuation τ sig (Elt F)) :
    after s9 V (no_index (Proc.devRef .tc main_v62)) = mulf (Host.exp (row3 (V (Proc.devRef .tc main_v2)))) (V (Proc.devRef .tc main_v36)) := by
  unfold s9
  after_reads_simp
  try rfl

theorem at10_v70 (V : Valuation τ sig (Elt F)) :
    after s10 V (no_index (Proc.devRef .tc main_v70)) = det (V (Proc.devRef .tc main_v2)) := by
  unfold s10
  after_reads_simp
  try rfl

theorem at11_v72 (V : Valuation τ sig (Elt F)) :
    after s11 V (no_index (Proc.devRef .tc main_v72)) = cls (V (Proc.devRef .tc main_v2)) := by
  unfold s11
  after_reads_simp
  try rfl

theorem at12_v75 (V : Valuation τ sig (Elt F)) :
    after s12 V (no_index (Proc.devRef .tc main_v75)) = top (V (Proc.devRef .tc main_v72)) := by
  unfold s12
  after_reads_simp
  try rfl

theorem at13_v79 (V : Valuation τ sig (Elt F)) :
    after s13 V (no_index (Proc.devRef .tc main_v79)) = Host.exp (subf (V (Proc.devRef .tc main_v72)) (across (V (Proc.devRef .tc main_v75)))) := by
  unfold s13
  after_reads_simp
  try rfl

theorem at14_v83 (V : Valuation τ sig (Elt F)) :
    after s14 V (no_index (Proc.devRef .tc main_v83)) = prob (V (Proc.devRef .tc main_v79)) := by
  unfold s14
  after_reads_simp
  try rfl

theorem at15_v84 (V : Valuation τ sig (Elt F)) :
    after s15 V (no_index (Proc.devRef .tc main_v84)) = conf (V (Proc.devRef .tc main_v83)) := by
  unfold s15
  after_reads_simp
  try rfl

theorem at16_v85 (V : Valuation τ sig (Elt F)) :
    after s16 V (no_index (Proc.devRef .tc main_v85)) = best (V (Proc.devRef .tc main_v83)) := by
  unfold s16
  after_reads_simp
  rfl

theorem at17_v87 (V : Valuation τ sig (Elt F)) :
    after s17 V (no_index (Proc.devRef .tc main_v87)) = Host.divf (V (Proc.devRef .tc main_v45)) (splat 0x42800000#32) := by
  unfold s17
  after_reads_simp
  try rfl

theorem at17_v89 (V : Valuation τ sig (Elt F)) :
    after s17 V (no_index (Proc.devRef .tc main_v89)) = Host.divf (V (Proc.devRef .tc main_v54)) (splat 0x42800000#32) := by
  unfold s17
  after_reads_simp
  try rfl

theorem at17_v91 (V : Valuation τ sig (Elt F)) :
    after s17 V (no_index (Proc.devRef .tc main_v91)) = Host.divf (V (Proc.devRef .tc main_v58)) (splat 0x42800000#32) := by
  unfold s17
  after_reads_simp
  try rfl

theorem at17_v93 (V : Valuation τ sig (Elt F)) :
    after s17 V (no_index (Proc.devRef .tc main_v93)) = Host.divf (V (Proc.devRef .tc main_v62)) (splat 0x42800000#32) := by
  unfold s17
  after_reads_simp
  try rfl

theorem at18_v100 (V : Valuation τ sig (Elt F)) :
    after s18 V (no_index (Proc.devRef .tc main_v100)) = stack (V (Proc.devRef .tc main_v87)) (V (Proc.devRef .tc main_v89)) (V (Proc.devRef .tc main_v91)) (V (Proc.devRef .tc main_v93)) (V (Proc.devRef .tc main_v70)) (V (Proc.devRef .tc main_v84)) := by
  unfold s18
  after_reads_simp
  try rfl

theorem at19_v102 (V : Valuation τ sig (Elt F)) :
    after s19 V (no_index (Proc.devRef .tc main_v102)) = passes (V (Proc.devRef .tc main_v70)) (V (Proc.devRef .tc main_arg1)) := by
  unfold s19
  after_reads_simp
  try rfl

theorem at19_v103 (V : Valuation τ sig (Elt F)) :
    after s19 V (no_index (Proc.devRef .tc main_v103)) = maskCol (passes (V (Proc.devRef .tc main_v70)) (V (Proc.devRef .tc main_arg1))) := by
  unfold s19
  after_reads_simp
  try rfl

theorem at19_cst_14 (V : Valuation τ sig (Elt F)) :
    after s19 V (no_index (Proc.devRef .tc main_cst_14)) = constant S_ .f32 0x00000000#32 := by
  unfold s19
  after_reads_simp
  try rfl

theorem at20_v104 (V : Valuation τ sig (Elt F)) :
    after s20 V (no_index (Proc.devRef .tc main_v104)) = maskedBoxes (V (Proc.devRef .tc main_v103)) (V (Proc.devRef .tc main_v100)) (V (Proc.devRef .tc main_cst_14)) := by
  unfold s20
  after_reads_simp
  rfl

theorem at21_v105 (V : Valuation τ sig (Elt F)) :
    after s21 V (no_index (Proc.devRef .tc main_v105)) = maskedIds (V (Proc.devRef .tc main_v102)) (V (Proc.devRef .tc main_v85)) := by
  unfold s21
  after_reads_simp
  rfl

/-- The run leaves `boxes` of the arguments. -/
theorem boxes_eq (V : Valuation τ sig (Elt F)) :
    after ops V (Proc.devRef .tc main_v104) = boxes (V (Proc.devRef .tc main_arg0)) (V (Proc.devRef .tc main_arg1)) := by
  rw [after_ops]
  simp (disch := decide) only [at1_v2, at1_cst, at2_v11, at3_v21, at4_v22, at4_v29, at5_v36, at6_v45, at7_v54, at8_v58, at9_v62, at10_v70, at11_v72, at12_v75, at13_v79, at14_v83, at15_v84, at16_v85, at17_v87, at17_v89, at17_v91, at17_v93, at18_v100, at19_v102, at19_v103, at19_cst_14, at20_v104, at21_v105, keep21, keep20, keep19, keep18, keep17, keep16, keep15, keep14, keep13, keep12, keep11, keep10, keep9, keep8, keep7, keep6, keep5, keep4, keep3, keep2, keep1]
  rfl

/-- The run leaves `ids` of the arguments. -/
theorem ids_eq (V : Valuation τ sig (Elt F)) :
    after ops V (Proc.devRef .tc main_v105) = ids (V (Proc.devRef .tc main_arg0)) (V (Proc.devRef .tc main_arg1)) := by
  rw [after_ops]
  simp (disch := decide) only [at1_v2, at1_cst, at2_v11, at3_v21, at4_v22, at4_v29, at5_v36, at6_v45, at7_v54, at8_v58, at9_v62, at10_v70, at11_v72, at12_v75, at13_v79, at14_v83, at15_v84, at16_v85, at17_v87, at17_v89, at17_v91, at17_v93, at18_v100, at19_v102, at19_v103, at19_cst_14, at20_v104, at21_v105, keep21, keep20, keep19, keep18, keep17, keep16, keep15, keep14, keep13, keep12, keep11, keep10, keep9, keep8, keep7, keep6, keep5, keep4, keep3, keep2, keep1]
  rfl

end Cert.Proof.Ref
-- ==== Proof.RefAt.lean ====
/-
  The reference's arrays read at one anchor position: its row number `r` is a plane `r / 4096` and a cell `r % 4096`.
-/
module

public import proofs.«01_k».proof.Proof.RefVal
public import proofs.«01_k».proof.Proof.Soft
public import proofs.«01_k».proof.Proof.Consts

@[expose] public section

set_option maxRecDepth 16384

noncomputable section

namespace Cert.Proof.Ref

open Idealize.ShloMosaic Idealize.ShloMosaic.TcCoe
open Cert.ReferenceIdeal Cert.ReferenceIdeal.Gen

variable (r : Fin 196608)

theorem rows_at (x : FVec Ideal S16x255x64x64 .f32) (k : Fin 85) :
    rows x (ix2 k r) = (shapeCast S48x85x4096 x shapeCasts_S16x255x64x64_S48x85x4096 : FVec Ideal S48x85x4096 .f32)
      (ix3 ⟨r.val / 4096, by omega⟩ k ⟨r.val % 4096, by omega⟩) := by
  pointwise [rows]

theorem gridX_at : (gridX : FVec Ideal S196608 .f32) (ix1 r) = FloatOps.sitofp (F := Ideal) .f32 (BitVec.ofNat 32 (r.val % 4096 % 64)) := by
  pointwise [gridX, spread, gridTable]

theorem gridY_at : (gridY : FVec Ideal S196608 .f32) (ix1 r) = FloatOps.sitofp (F := Ideal) .f32 (BitVec.ofNat 32 (r.val % 4096 / 64)) := by
  pointwise [gridY, spread, gridTable]

theorem anchW_at : (anchW : FVec Ideal S196608 .f32) (ix1 r)
    = Ideal.ofBits .f32 (lit0 (S6.rowMajor (ix1 ⟨r.val / 4096 % 3 * 2, by omega⟩))) := by
  pointwise [anchW, anchSpread, anchors]

theorem anchH_at : (anchH : FVec Ideal S196608 .f32) (ix1 r)
    = Ideal.ofBits .f32 (lit0 (S6.rowMajor (ix1 ⟨r.val / 4096 % 3 * 2 + 1, by omega⟩))) := by
  pointwise [anchH, anchSpread, anchors]

variable (R : FVec Ideal S85x196608 .f32)

theorem cx_at : cx R (ix1 r) = Ideal.div (Ideal.div 1 (1 + Ideal.exp (-R (ix2 0 r))) + (gridX : FVec Ideal S196608 .f32) (ix1 r)) (Ideal.ofBits .f32 0x42800000#32) := by
  pointwise [cx, sigm, row0, splat]

theorem cy_at : cy R (ix1 r) = Ideal.div (Ideal.div 1 (1 + Ideal.exp (-R (ix2 1 r))) + (gridY : FVec Ideal S196608 .f32) (ix1 r)) (Ideal.ofBits .f32 0x42800000#32) := by
  pointwise [cy, sigm, row1, splat]

theorem cw_at : cw R (ix1 r) = Ideal.div (Ideal.exp (R (ix2 2 r)) * (anchW : FVec Ideal S196608 .f32) (ix1 r)) (Ideal.ofBits .f32 0x42800000#32) := by
  pointwise [cw, row2, splat]

theorem ch_at : ch R (ix1 r) = Ideal.div (Ideal.exp (R (ix2 3 r)) * (anchH : FVec Ideal S196608 .f32) (ix1 r)) (Ideal.ofBits .f32 0x42800000#32) := by
  pointwise [ch, row3, splat]

theorem det_at : det R (ix1 r) = Ideal.div 1 (1 + Ideal.exp (-R (ix2 4 r))) := by
  pointwise [det, sigm, row4, splat]

theorem cls_at (k : Fin 80) : cls R (ix2 r k) = R (ix2 ⟨5 + k.val, by omega⟩ r) := by
  pointwise [cls]

variable (C : FVec Ideal S196608x80 .f32)

/-- The greatest of a row. -/
theorem conf_at : conf C (ix1 r) = Soft.top fun k => C (ix2 r k) := by
  have h : conf C (ix1 r) = Finset.fold max (Ideal.ofBits .f32 0xFF800000#32) (fun k => C (ix2 r k)) Finset.univ := by
    pointwise [conf]
  rw [h, Consts.ninf]
  rfl

theorem splat_ninf : (splat 0xFF800000#32 : FVec Ideal S196608 .f32) (ix1 r) = (⊥ : EReal) := by
  have h : (splat 0xFF800000#32 : FVec Ideal S196608 .f32) (ix1 r) = Ideal.ofBits .f32 0xFF800000#32 := by
    pointwise [splat]
  rw [h, Consts.ninf]

/-- The reference takes the greater of minus infinity and that. -/
theorem top_conf : top C = maximumf (splat 0xFF800000#32) (conf C) := rfl

theorem max_at (a b : FVec Ideal S196608 .f32) : maximumf a b (ix1 r) = max (a (ix1 r) : EReal) (b (ix1 r)) := by
  pointwise

theorem bot_max (a b : EReal) (h : a = ⊥) : max a b = b := by
  rw [h]; exact max_eq_right bot_le

theorem top_at : top C (ix1 r) = Soft.top fun k => C (ix2 r k) := by
  rw [top_conf]
  exact (max_at r _ _).trans ((bot_max _ _ (splat_ninf r)).trans (conf_at r C))

theorem expo_at (k : Fin 80) : expo C (ix2 r k) = Ideal.exp (C (ix2 r k) - top C (ix1 r)) := by
  pointwise [expo, across]

theorem prob_at (k : Fin 80) : prob C (ix2 r k) = Ideal.div (C (ix2 r k)) (∑ x, C (ix2 r x)) := by
  pointwise [prob, across]

/-- The probabilities of a row are the softmax of its scores. -/
theorem prob_expo_at (k : Fin 80) : prob (expo C) (ix2 r k) = Soft.share (fun k => C (ix2 r k)) k := by
  rw [prob_at]
  simp only [expo_at, top_at]
  rfl

end Cert.Proof.Ref
-- ==== Proof.ArgFold.lean ====
/-
  The reference's argmax: a left fold over pairs of a value and its place, which ends at the first place of the
  greatest value.
-/
module

public import proofs.«01_k».proof.Proof.RefVal
public import Idealize.ShloMosaic.Lib.Pipeline.ValueKit
public import Idealize.ShloMosaic.PureOps.Ideal.Laws

@[expose] public section

set_option maxRecDepth 16384

noncomputable section

namespace Cert.Proof.Ref

open Idealize.ShloMosaic Idealize.ShloMosaic.TcCoe
open Cert.ReferenceIdeal Cert.ReferenceIdeal.Gen

/-- One step of the argmax on the ideal values, its comparisons written out. -/
theorem step_eq (a b : EReal × BitVec 32) :
    (reducer_argmax_f32_i32 (F := Ideal) a b : EReal × BitVec 32)
      = (if b.1 < a.1 then a.1 else b.1, if b.1 < a.1 ∨ (a.1 = b.1 ∧ a.2.slt b.2 = true) then a.2 else b.2) := by
  unfold reducer_argmax_f32_i32
  have e1 : FloatOps.cmpf (F := Ideal) (φ := .f32) .ogt a.1 b.1 = BitVec.ofBool (decide (b.1 < a.1)) := by
    simp [Ideal.cmpf_def, Ideal.cmp]
  have e2 : FloatOps.cmpf (F := Ideal) (φ := .f32) .une a.1 a.1 = 0#1 := by
    simp [Ideal.cmpf_def, Ideal.cmp]
  have e3 : FloatOps.cmpf (F := Ideal) (φ := .f32) .oeq a.1 b.1 = BitVec.ofBool (decide (a.1 = b.1)) := by
    simp [Ideal.cmpf_def, Ideal.cmp]
  have e4 : IntOp.cmpi .slt a.2 b.2 = BitVec.ofBool (a.2.slt b.2) := rfl
  simp only [e1, e2, e3, e4]
  by_cases h1 : b.1 < a.1 <;> by_cases h2 : a.1 = b.1 <;> cases h3 : a.2.slt b.2 <;>
    simp [h1, h2, Scalar.select, IntOp.ori, IntOp.andi]

/-- While every value stays below a bound, so does the fold's. -/
theorem fold_below (P : EReal) (l : List (EReal × BitVec 32)) (hl : ∀ p ∈ l, p.1 < P) (a : EReal × BitVec 32) (ha : a.1 < P) :
    (l.foldl (reducer_argmax_f32_i32 (F := Ideal)) a : EReal × BitVec 32).1 < P := by
  induction l generalizing a with
  | nil => exact ha
  | cons p l ih =>
    refine ih (fun q hq => hl q (List.mem_cons_of_mem _ hq)) _ ?_
    rw [step_eq]
    dsimp only
    split
    · exact ha
    · exact hl p List.mem_cons_self

/-- From the greatest value on, the fold stays where it is. -/
theorem fold_stays (P : EReal) (w : BitVec 32) (l : List (EReal × BitVec 32)) (hl : ∀ p ∈ l, p.1 ≤ P ∧ w.slt p.2 = true) :
    (l.foldl (reducer_argmax_f32_i32 (F := Ideal)) (P, w) : EReal × BitVec 32) = (P, w) := by
  induction l with
  | nil => rfl
  | cons p l ih =>
    have hp := hl p List.mem_cons_self
    have e : (reducer_argmax_f32_i32 (F := Ideal) (P, w) p : EReal × BitVec 32) = (P, w) := by
      rw [step_eq]
      rcases hp.1.lt_or_eq with h | h
      · simp [h]
      · simp [h, hp.2]
    rw [List.foldl_cons, e]
    exact ih fun q hq => hl q (List.mem_cons_of_mem _ hq)

/-- The fold over a list ends at the pair before which every value is smaller and after which none is greater. -/
theorem fold_first (a : EReal × BitVec 32) (P : EReal) (w : BitVec 32) (l₁ l₂ : List (EReal × BitVec 32)) (ha : a.1 < P)
    (h₁ : ∀ p ∈ l₁, p.1 < P) (h₂ : ∀ p ∈ l₂, p.1 ≤ P ∧ w.slt p.2 = true) :
    ((l₁ ++ (P, w) :: l₂).foldl (reducer_argmax_f32_i32 (F := Ideal)) a : EReal × BitVec 32) = (P, w) := by
  rw [List.foldl_append, List.foldl_cons]
  have hb := fold_below P l₁ h₁ a ha
  generalize l₁.foldl (reducer_argmax_f32_i32 (F := Ideal)) a = b at hb ⊢
  have e : (reducer_argmax_f32_i32 (F := Ideal) b (P, w) : EReal × BitVec 32) = (P, w) := by
    rw [step_eq]
    simp [not_lt.mpr hb.le, hb.ne]
  rw [e]
  exact fold_stays P w l₂ h₂

end Cert.Proof.Ref
-- ==== Proof.ArgRow.lean ====
/-
  The reference's argmax along a row of 80 probabilities: the first class of the greatest.
-/
module

public import proofs.«01_k».proof.Proof.ArgFold
public import proofs.«01_k».proof.Proof.Consts

@[expose] public section

set_option maxRecDepth 16384

noncomputable section

namespace Cert.Proof.Ref

open Idealize.ShloMosaic Idealize.ShloMosaic.TcCoe
open Cert.ReferenceIdeal Cert.ReferenceIdeal.Gen

/-- A list of increasing places split at one of them: the smaller ones before it, the greater ones after it. -/
theorem split_at {n : ℕ} (l : List (Fin n)) (hl : l.Pairwise (· < ·)) (a : Fin n) (ha : a ∈ l) :
    ∃ l₁ l₂, l = l₁ ++ a :: l₂ ∧ (∀ b ∈ l₁, b ∈ l ∧ b < a) ∧ (∀ b ∈ l₂, b ∈ l ∧ a < b) := by
  obtain ⟨l₁, l₂, rfl⟩ := List.append_of_mem ha
  rw [List.pairwise_append] at hl
  refine ⟨l₁, l₂, rfl, fun b hb => ⟨by simp [hb], hl.2.2 b hb a List.mem_cons_self⟩, fun b hb => ⟨by simp [hb], ?_⟩⟩
  exact (List.pairwise_cons.mp hl.2.1).1 b hb

/-- The pairs a reduction folds at one result, split at one of them: those before it sit earlier in the array's order,
    those after it later. -/
theorem fiber_split {s t : Shape} {axes : List (Fin s.rank)} {α β : Type} (x : s.Idx → α) (y : s.Idx → β)
    (h : s.ReducesTo axes t) (j : t.Idx) (i₀ : s.Idx) (hi : h.drop i₀ = j) :
    ∃ l₁ l₂, Host.argReduceFiber x y h j = l₁ ++ (x i₀, y i₀) :: l₂
      ∧ (∀ p ∈ l₁, ∃ i, p = (x i, y i) ∧ h.drop i = j ∧ s.rowMajor i < s.rowMajor i₀)
      ∧ (∀ p ∈ l₂, ∃ i, p = (x i, y i) ∧ h.drop i = j ∧ s.rowMajor i₀ < s.rowMajor i) := by
  unfold Host.argReduceFiber
  have hpw := (List.pairwise_lt_finRange s.numel).filter fun n => decide (h.drop (s.rowMajor.symm n) = j)
  have hin : s.rowMajor i₀ ∈ (List.finRange s.numel).filter fun n => h.drop (s.rowMajor.symm n) = j := by
    refine List.mem_filter.mpr ⟨List.mem_finRange _, ?_⟩
    rw [Equiv.symm_apply_apply]
    exact decide_eq_true hi
  obtain ⟨l₁, l₂, hl, h₁, h₂⟩ := split_at _ hpw _ hin
  refine ⟨l₁.map fun n => (x (s.rowMajor.symm n), y (s.rowMajor.symm n)),
    l₂.map fun n => (x (s.rowMajor.symm n), y (s.rowMajor.symm n)), ?_, ?_, ?_⟩
  · rw [hl, List.map_append, List.map_cons, Equiv.symm_apply_apply]
  · intro p hp
    obtain ⟨n, hn, rfl⟩ := List.mem_map.mp hp
    obtain ⟨hnL, hn0⟩ := h₁ n hn
    exact ⟨_, rfl, of_decide_eq_true (List.mem_filter.mp hnL).2, by rw [Equiv.apply_symm_apply]; exact hn0⟩
  · intro p hp
    obtain ⟨n, hn, rfl⟩ := List.mem_map.mp hp
    obtain ⟨hnL, hn0⟩ := h₂ n hn
    exact ⟨_, rfl, of_decide_eq_true (List.mem_filter.mp hnL).2, by rw [Equiv.apply_symm_apply]; exact hn0⟩

/-- An entry that the reduction along a row drops to the row is an entry of that row. -/
theorem of_drop (r : Fin 196608) (i : S196608x80.Idx) (h : reducesTo_S196608x80_S196608_d1.drop i = ix1 r) :
    i = ix2 r (i 1) := by
  have e : (reducesTo_S196608x80_S196608_d1.drop i 0 : ℕ) = i 0 :=
    Shape.ReducesTo.drop_apply_val_of_eq reducesTo_S196608x80_S196608_d1 i 0 0
  rw [h] at e
  have e' : i 0 = r := Fin.ext e.symm
  funext a
  fin_cases a
  · exact e'
  · rfl

theorem drop_row (r : Fin 196608) (k : Fin 80) : reducesTo_S196608x80_S196608_d1.drop (ix2 r k) = ix1 r := by
  funext a
  fin_cases a
  refine Fin.ext ?_
  exact Shape.ReducesTo.drop_apply_val_of_eq reducesTo_S196608x80_S196608_d1 (ix2 r k) 0 0

theorem slt_words : ∀ a b : Fin 80, a < b → (BitVec.ofNat 32 a.val).slt (BitVec.ofNat 32 b.val) = true := by decide +kernel

/-- The place an argmax over ideal values answers, from the fold it is. -/
theorem argReduce_snd {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes t)
    (hu : 0 < u.numel) (j : t.Idx) (v : Ideal .f32) (w : BitVec 32)
    (hf : (Host.argReduceFiber x y h j).foldl f (ix (Shape.Idx.first hu), iy (Shape.Idx.first hu)) = (v, w)) :
    (Host.argReduce f x y ix iy h hu j).2 = w := by
  rw [Ideal.argReduce_eq_reduce2, Host.reduce2_eq_foldl_fiber, hf]

/-- The place of an entry in its array, in its coordinates: a smaller place in a row is a smaller class. -/
theorem class_lt (r : Fin 196608) (i j : S196608x80.Idx) (hi : i = ix2 r (i 1)) (hj : j = ix2 r (j 1))
    (h : S196608x80.rowMajor i < S196608x80.rowMajor j) : (i 1).val < (j 1).val := by
  have hi' := Shape.rowMajor_val_two (d := ![196608, 80]) i
  have hj' := Shape.rowMajor_val_two (d := ![196608, 80]) j
  have e0 : (i 0).val = (j 0).val := by rw [hi, hj]; rfl
  have e1 : (![196608, 80] : Fin 2 → ℕ) 1 = 80 := rfl
  rw [e1] at hi' hj'
  have h' := Fin.lt_def.mp h
  rw [hi', hj'] at h'
  omega

/-- The argmax's fold along a row whose greatest value is first held at one class. -/
theorem fold_row (P : FVec Ideal S196608x80 .f32) (y : S196608x80.Idx → BitVec 32) (a : Ideal .f32 × BitVec 32) (r : Fin 196608) (k₀ : Fin 80)
    (hy : ∀ i, y i = BitVec.ofNat 32 (i 1).val) (ha : (a.1 : EReal) < P (ix2 r k₀))
    (hle : ∀ k, (P (ix2 r k) : EReal) ≤ P (ix2 r k₀)) (hlt : ∀ k, k < k₀ → (P (ix2 r k) : EReal) < P (ix2 r k₀)) :
    (Host.argReduceFiber P y reducesTo_S196608x80_S196608_d1 (ix1 r)).foldl
        (reducer_argmax_f32_i32 (F := Ideal)) a = (P (ix2 r k₀), BitVec.ofNat 32 k₀.val) := by
  obtain ⟨l₁, l₂, hl, h₁, h₂⟩ := fiber_split P y reducesTo_S196608x80_S196608_d1 (ix1 r) (ix2 r k₀)
    (drop_row r k₀)
  have e : y (ix2 r k₀) = BitVec.ofNat 32 k₀.val := hy _
  rw [hl, e]
  refine fold_first a _ _ l₁ l₂ ha (fun p hp => ?_) fun p hp => ?_
  · obtain ⟨i, rfl, hd, hlt'⟩ := h₁ p hp
    have hi := of_drop r i hd
    have hk : (i 1).val < k₀.val := class_lt r i (ix2 r k₀) hi rfl hlt'
    exact lt_of_eq_of_lt (congrArg P hi) (hlt (i 1) (Fin.lt_def.mpr hk))
  · obtain ⟨i, rfl, hd, hlt'⟩ := h₂ p hp
    have hi := of_drop r i hd
    have hk : k₀.val < (i 1).val := class_lt r (ix2 r k₀) i rfl hi hlt'
    refine ⟨le_of_eq_of_le (congrArg P hi) (hle (i 1)), ?_⟩
    dsimp only
    rw [hy]
    exact slt_words k₀ (i 1) (Fin.lt_def.mpr hk)

end Cert.Proof.Ref
-- ==== Proof.ArgBest.lean ====
/-
  The reference's class number of a row, from its probabilities.
-/
module

public import proofs.«01_k».proof.Proof.ArgRow

@[expose] public section

set_option maxRecDepth 16384

noncomputable section

namespace Cert.Proof.Ref

open Idealize.ShloMosaic Idealize.ShloMosaic.TcCoe
open Cert.ReferenceIdeal Cert.ReferenceIdeal.Gen

/-- Where the argmax's fold starts: the number … -/
theorem start_bot (i : S_.Idx) : ((constant S_ .f32 0xFF800000#32 : FVec Ideal S_ .f32) i : EReal) = ⊥ :=
  (constant_apply S_ .f32 0xFF800000#32 i).trans Consts.ninf

/-- … and the classes it runs over. -/
theorem class_word (i : S196608x80.Idx) : iotaInDim S196608x80 32 1 i = BitVec.ofNat 32 (i 1).val := rfl

theorem best_eq (P : FVec Ideal S196608x80 .f32) : best P = fun j =>
    (Host.argReduce reducer_argmax_f32_i32 P (iotaInDim S196608x80 32 1) (constant S_ .f32 0xFF800000#32) (constantI S_ 32 0#32)
      reducesTo_S196608x80_S196608_d1 h_S_ j).2 := rfl

theorem fold_best (P : FVec Ideal S196608x80 .f32) (r : Fin 196608) (k₀ : Fin 80) (h0 : (⊥ : EReal) < P (ix2 r k₀))
    (hle : ∀ k, (P (ix2 r k) : EReal) ≤ P (ix2 r k₀)) (hlt : ∀ k, k < k₀ → (P (ix2 r k) : EReal) < P (ix2 r k₀)) :
    (Host.argReduceFiber P (iotaInDim S196608x80 32 1) reducesTo_S196608x80_S196608_d1 (ix1 r)).foldl
        (reducer_argmax_f32_i32 (F := Ideal)) ((constant S_ .f32 0xFF800000#32 : FVec Ideal S_ .f32) (Shape.Idx.first h_S_), (constantI S_ 32 0#32) (Shape.Idx.first h_S_)) = (P (ix2 r k₀), BitVec.ofNat 32 k₀.val) :=
  fold_row P (iotaInDim S196608x80 32 1) _ r k₀ class_word (lt_of_eq_of_lt (start_bot (Shape.Idx.first h_S_)) h0) hle hlt

theorem arg_best (P : FVec Ideal S196608x80 .f32) (r : Fin 196608) (k₀ : Fin 80) (h0 : (⊥ : EReal) < P (ix2 r k₀))
    (hle : ∀ k, (P (ix2 r k) : EReal) ≤ P (ix2 r k₀)) (hlt : ∀ k, k < k₀ → (P (ix2 r k) : EReal) < P (ix2 r k₀)) :
    (Host.argReduce reducer_argmax_f32_i32 P (iotaInDim S196608x80 32 1) (constant S_ .f32 0xFF800000#32) (constantI S_ 32 0#32)
      reducesTo_S196608x80_S196608_d1 h_S_ (ix1 r)).2 = BitVec.ofNat 32 k₀.val :=
  argReduce_snd reducer_argmax_f32_i32 P (iotaInDim S196608x80 32 1) (constant S_ .f32 0xFF800000#32) (constantI S_ 32 0#32)
    reducesTo_S196608x80_S196608_d1 h_S_ (ix1 r) (P (ix2 r k₀)) (BitVec.ofNat 32 k₀.val) (fold_best P r k₀ h0 hle hlt)

/-- The class number of a row is the first class of its greatest probability. -/
theorem best_at (P : FVec Ideal S196608x80 .f32) (r : Fin 196608) (k₀ : Fin 80) (h0 : (⊥ : EReal) < P (ix2 r k₀))
    (hle : ∀ k, (P (ix2 r k) : EReal) ≤ P (ix2 r k₀)) (hlt : ∀ k, k < k₀ → (P (ix2 r k) : EReal) < P (ix2 r k₀)) :
    best P (ix1 r) = BitVec.ofNat 32 k₀.val :=
  (congrFun (best_eq P) (ix1 r)).trans (arg_best P r k₀ h0 hle hlt)

end Cert.Proof.Ref
-- ==== Proof.RefCell.lean ====
/-
  The reference's two results at one anchor position, as the cell's box and class number.
-/
module

public import proofs.«01_k».proof.Proof.RefAt
public import proofs.«01_k».proof.Proof.ArgBest
public import proofs.«01_k».proof.Proof.KOut

@[expose] public section

set_option maxRecDepth 16384

noncomputable section

namespace Cert.Proof.Ref

open Idealize.ShloMosaic Idealize.ShloMosaic.TcCoe
open Cert.ReferenceIdeal Cert.ReferenceIdeal.Gen

/-- Six columns side by side, read at one of them. -/
theorem stack_at (a b c d e f : FVec Ideal S196608 .f32) (r : Fin 196608) (k : Fin 6) :
    stack a b c d e f (ix2 r k)
      = (![a (ix1 r), b (ix1 r), c (ix1 r), d (ix1 r), e (ix1 r), f (ix1 r)] : Fin 6 → EReal) k := by
  pointwise [stack, col]
  fin_vals k with hk
  all_goals simp only [hk, Nat.reduceSub, Nat.reduceLT, ↓reduceDIte]
  · obtain rfl : k = 0 := Fin.ext hk
    rfl
  · obtain rfl : k = 1 := Fin.ext hk
    rfl
  · obtain rfl : k = 2 := Fin.ext hk
    rfl
  · obtain rfl : k = 3 := Fin.ext hk
    rfl
  · obtain rfl : k = 4 := Fin.ext hk
    rfl
  · obtain rfl : k = 5 := Fin.ext hk
    rfl

theorem select_dec {α : Type} (p : Prop) [Decidable p] (a b : α) :
    Scalar.select (BitVec.ofBool (decide p)) a b = if p then a else b := by
  by_cases h : p <;> simp [h, Scalar.select]

theorem masked_at (d : FVec Ideal S196608 .f32) (thr : FVec Ideal S_ .f32) (B : FVec Ideal S196608x6 .f32) (r : Fin 196608) (k : Fin 6) :
    maskedBoxes (maskCol (passes d thr)) B (constant S_ .f32 0x00000000#32) (ix2 r k)
      = if (thr ix0 : EReal) < d (ix1 r) then (B (ix2 r k) : EReal) else 0 := by
  pointwise [maskedBoxes, maskCol, passes]

theorem maskedIds_at (d : FVec Ideal S196608 .f32) (thr : FVec Ideal S_ .f32) (B : IVec S196608 32) (r : Fin 196608) :
    maskedIds (passes d thr) B (ix1 r)
      = if (thr ix0 : EReal) < d (ix1 r) then B (ix1 r) else 4294967295#32 := by
  pointwise [maskedIds, passes]

/-- The two halves of a row number. -/
theorem anchW_val : ∀ a : Fin 3, Ideal.ofBits .f32 (lit0 (S6.rowMajor (ix1 ⟨a.val * 2, by omega⟩)))
    = (((![3 / 8, 19 / 32, 5 / 4] : Fin 3 → ℝ) a : ℝ) : EReal) := by
  intro a
  fin_cases a
  · exact Consts.w0
  · exact Consts.w1
  · exact Consts.w2

theorem anchH_val : ∀ a : Fin 3, Ideal.ofBits .f32 (lit0 (S6.rowMajor (ix1 ⟨a.val * 2 + 1, by omega⟩)))
    = (((![1 / 2, 9 / 8, 7 / 8] : Fin 3 → ℝ) a : ℝ) : EReal) := by
  intro a
  fin_cases a
  · exact Consts.h0
  · exact Consts.h1
  · exact Consts.h2

theorem kW_val : ∀ a : Fin 3, Cert.KernelIdeal.Gen.k0_pay7 (F := Ideal) (BitVec.ofNat 32 a.val)
    = (((![3 / 8, 19 / 32, 5 / 4] : Fin 3 → ℝ) a * (1 / 64) : ℝ) : EReal) := by
  intro a
  fin_cases a
  · exact Consts.kw0
  · exact Consts.kw1
  · exact Consts.kw2

theorem kH_val : ∀ a : Fin 3, Cert.KernelIdeal.Gen.k0_pay8 (F := Ideal) (BitVec.ofNat 32 a.val)
    = (((![1 / 2, 9 / 8, 7 / 8] : Fin 3 → ℝ) a * (1 / 64) : ℝ) : EReal) := by
  intro a
  fin_cases a
  · exact Consts.kh0
  · exact Consts.kh1
  · exact Consts.kh2

variable (x : FVec Ideal S16x255x64x64 .f32) (thr : FVec Ideal S_ .f32) (r : Fin 196608) (z : Fin 85 → EReal)
  (hz : ∀ k, rows x (ix2 k r) = z k) (h0 : ⊥ < Soft.top (Soft.cls z)) (h1 : Soft.top (Soft.cls z) < ⊤)

include hz in
theorem cls_row : (fun k => cls (rows x) (ix2 r k) : Fin 80 → EReal) = Soft.cls z :=
  funext fun k => (cls_at r (rows x) k).trans (hz _)

include hz in
/-- The softmax of the row. -/
theorem prob_row (k : Fin 80) : prob (expo (cls (rows x))) (ix2 r k) = Soft.share (Soft.cls z) k :=
  (prob_expo_at r (cls (rows x)) k).trans (congrArg (fun c => Soft.share c k) (cls_row x r z hz))

include hz h0 h1 in
/-- The greatest probability of the row. -/
theorem conf_row : conf (prob (expo (cls (rows x)))) (ix1 r) = Ideal.div 1 (Soft.total (Soft.cls z)) :=
  ((conf_at r (prob (expo (cls (rows x))))).trans (congrArg Soft.top (funext fun k => prob_row x r z hz k))).trans
    (Soft.top_share (Soft.cls z) h0 h1)

include hz in
theorem det_row : det (rows x) (ix1 r) = Cell.sg (z 4) :=
  (det_at r (rows x)).trans (congrArg Cell.sg (hz 4))

include hz in
theorem cx_row : cx (rows x) (ix1 r) = (Cell.sg (z 0) + FloatOps.sitofp (F := Ideal) .f32 (BitVec.ofNat 32 (r.val % 4096 % 64))) * ((1 / 64 : ℝ) : EReal) := by
  rw [cx_at, hz, gridX_at, Consts.c64, Cell.div64]
  rfl

include hz in
theorem cy_row : cy (rows x) (ix1 r) = (Cell.sg (z 1) + FloatOps.sitofp (F := Ideal) .f32 (BitVec.ofNat 32 (r.val % 4096 / 64))) * ((1 / 64 : ℝ) : EReal) := by
  rw [cy_at, hz, gridY_at, Consts.c64, Cell.div64]
  rfl

include hz in
theorem cw_row : cw (rows x) (ix1 r) = Ideal.exp (z 2) * Cert.KernelIdeal.Gen.k0_pay7 (F := Ideal) (BitVec.ofNat 32 (r.val / 4096 % 3)) := by
  rw [cw_at, hz, anchW_at, Consts.c64, anchW_val ⟨r.val / 4096 % 3, by omega⟩, Cell.mul_div64, kW_val ⟨r.val / 4096 % 3, by omega⟩]

include hz in
theorem ch_row : ch (rows x) (ix1 r) = Ideal.exp (z 3) * Cert.KernelIdeal.Gen.k0_pay8 (F := Ideal) (BitVec.ofNat 32 (r.val / 4096 % 3)) := by
  rw [ch_at, hz, anchH_at, Consts.c64, anchH_val ⟨r.val / 4096 % 3, by omega⟩, Cell.mul_div64, kH_val ⟨r.val / 4096 % 3, by omega⟩]

include hz h0 h1 in
/-- The reference's box is the cell's. -/
theorem boxes_row (j : Fin 6) : boxes x thr (ix2 r j)
    = Cell.box z (thr ix0) (FloatOps.sitofp (F := Ideal) .f32 (BitVec.ofNat 32 (r.val % 4096 % 64)))
        (FloatOps.sitofp (F := Ideal) .f32 (BitVec.ofNat 32 (r.val % 4096 / 64)))
        (Cert.KernelIdeal.Gen.k0_pay7 (F := Ideal) (BitVec.ofNat 32 (r.val / 4096 % 3)))
        (Cert.KernelIdeal.Gen.k0_pay8 (F := Ideal) (BitVec.ofNat 32 (r.val / 4096 % 3))) j := by
  unfold boxes
  rw [masked_at, stack_at, det_row x r z hz, cx_row x r z hz, cy_row x r z hz, cw_row x r z hz, ch_row x r z hz, conf_row x r z hz h0 h1]
  rfl

include hz h0 h1 in
/-- The reference's class number is the first class of the greatest score. -/
theorem ids_row (k₀ : Fin 80) (hk : Soft.top (Soft.cls z) ≤ Soft.cls z k₀) (hlt : ∀ j, j < k₀ → Soft.cls z j < Soft.top (Soft.cls z)) :
    ids x thr (ix1 r) = Cell.id z (thr ix0) k₀ := by
  have hb : best (prob (expo (cls (rows x)))) (ix1 r) = BitVec.ofNat 32 k₀.val := by
    have e := (Soft.share_spec (Soft.cls z) h0 h1 k₀).2.2.1 hk
    refine best_at (prob (expo (cls (rows x)))) r k₀ ?_ (fun k => ?_) fun k hlt' => ?_
    · rw [prob_row x r z hz]
      exact lt_of_lt_of_le EReal.bot_lt_zero (Soft.share_spec (Soft.cls z) h0 h1 k₀).1
    · rw [prob_row x r z hz, prob_row x r z hz, e]
      exact (Soft.share_spec (Soft.cls z) h0 h1 k).2.1
    · rw [prob_row x r z hz, prob_row x r z hz, e]
      exact (Soft.share_spec (Soft.cls z) h0 h1 k).2.2.2 (hlt k hlt')
  unfold ids
  rw [maskedIds_at, hb, det_row x r z hz]
  rfl

end Cert.Proof.Ref
-- ==== Proof.PreCond.lean ====
/-
  What the precondition says: in every cell of every plane the greatest class score is a real number.
-/
module

public import proofs.«01_k».proof.Proof.Gen.Pre_class_maxima_finite
public import proofs.«01_k».proof.Proof.Soft
public import proofs.«01_k».proof.Proof.Consts
public import Idealize.ShloMosaic.Lib.Pipeline.ValueKit

@[expose] public section

set_option maxRecDepth 16384

noncomputable section

namespace Cert.Proof.Pre

open Idealize.ShloMosaic
open Cert.Pre_class_maxima_finite Cert.Pre_class_maxima_finite.Gen

/-- The greatest of each column of class scores. -/
def greatest (A : FVec Ideal S48x80x4096 .f32) : FVec Ideal S48x4096 .f32 :=
  Host.reduce FloatOps.maximumf A (constant S_ .f32 0xFF800000#32) reducesTo_S48x80x4096_S48x4096_d1 h_S_

/-- The class scores of every plane. -/
def classes (P : FVec Ideal S48x85x4096 .f32) : FVec Ideal S48x80x4096 .f32 :=
  extractStridedSlice S48x80x4096 ![0, 5, 0] P slices_S48x85x4096_S48x80x4096_0_5_0

/-- Which numbers are real. -/
def real (B : FVec Ideal S48x4096 .f32) : IVec S48x4096 1 :=
  andi (cmpf .ogt B (broadcastInDim S48x4096 ![] bcast_S_S48x4096 (constant S_ .f32 0xFF800000#32)))
    (cmpf .olt B (broadcastInDim S48x4096 ![] bcast_S_S48x4096 (constant S_ .f32 0x7F800000#32)))

theorem fn_eq (x : FVec Ideal S16x255x64x64 .f32) (thr : FVec Ideal S_ .f32) :
    fn (F := Ideal) x thr = real (greatest (classes (shapeCast S48x85x4096 x shapeCasts_S16x255x64x64_S48x85x4096))) := rfl

variable (t : Fin 48) (i : Fin 4096)

theorem classes_at (P : FVec Ideal S48x85x4096 .f32) (k : Fin 80) :
    classes P (ix3 t k i) = (P (ix3 t ⟨5 + k.val, by omega⟩ i) : EReal) := by
  pointwise [classes]

theorem greatest_at (A : FVec Ideal S48x80x4096 .f32) : greatest A (ix2 t i) = Soft.top fun k => A (ix3 t k i) := by
  have h : greatest A (ix2 t i) = Finset.fold max (Ideal.ofBits .f32 0xFF800000#32) (fun k => A (ix3 t k i)) Finset.univ := by
    pointwise [greatest]
  rw [h, Consts.ninf]
  rfl

theorem real_at (B : FVec Ideal S48x4096 .f32) : real B (ix2 t i)
    = IntOp.andi (BitVec.ofBool (decide ((Ideal.ofBits .f32 0xFF800000#32 : EReal) < B (ix2 t i))))
        (BitVec.ofBool (decide ((B (ix2 t i) : EReal) < Ideal.ofBits .f32 0x7F800000#32))) := by
  pointwise [real]

theorem and_true (p q : Prop) [Decidable p] [Decidable q]
    (h : IntOp.andi (BitVec.ofBool (decide p)) (BitVec.ofBool (decide q)) = 1#1) : p ∧ q := by
  by_cases hp : p <;> by_cases hq : q <;> simp_all [IntOp.andi]

/-- The greatest class score of every cell is real. -/
theorem top_real (x : FVec Ideal S16x255x64x64 .f32) (thr : FVec Ideal S_ .f32) (h : fn (F := Ideal) x thr = fun _ => 1#1) :
    ⊥ < Soft.top (Soft.cls fun k => (shapeCast S48x85x4096 x shapeCasts_S16x255x64x64_S48x85x4096 : FVec Ideal S48x85x4096 .f32) (ix3 t k i))
    ∧ Soft.top (Soft.cls fun k => (shapeCast S48x85x4096 x shapeCasts_S16x255x64x64_S48x85x4096 : FVec Ideal S48x85x4096 .f32) (ix3 t k i)) < ⊤ := by
  rw [fn_eq] at h
  generalize (shapeCast S48x85x4096 x shapeCasts_S16x255x64x64_S48x85x4096 : FVec Ideal S48x85x4096 .f32) = P at h ⊢
  have e : greatest (classes P) (ix2 t i) = Soft.top (Soft.cls fun k => P (ix3 t k i)) := by
    rw [greatest_at]
    exact congrArg Soft.top (funext fun k => classes_at t i P k)
  have h1 := congrFun h (ix2 t i)
  rw [real_at, e, Consts.ninf, Consts.pinf] at h1
  exact and_true _ _ h1

end Cert.Proof.Pre
-- ==== Proof.Equation.lean ====
/-
  The kernel's two results and the reference's are the same arrays.
-/
module

public import proofs.«01_k».proof.Proof.KBlock
public import proofs.«01_k».proof.Proof.RefCell
public import proofs.«01_k».proof.Proof.PreCond

@[expose] public section

set_option maxRecDepth 16384

noncomputable section

namespace Cert.Proof.Eqn

open Idealize.ShloMosaic Idealize.ShloMosaic.TcCoe Idealize.SL.Sem
open Cert.KernelIdeal Cert.KernelIdeal.Gen

/-- The input as forty-eight planes of eighty-five rows. -/
def planes (x : FVec Ideal S16x255x64x64 .f32) : FVec Ideal S48x85x4096 .f32 :=
  shapeCast S48x85x4096 x shapeCasts_S16x255x64x64_S48x85x4096

/-- Row `t * 4096 + i` of the reference's array is cell `i` of plane `t`. -/
theorem rows_plane (x : FVec Ideal S16x255x64x64 .f32) (t : Fin 48) (i : Fin 4096) (k : Fin 85) :
    Ref.rows x (ix2 k (⟨t.val * 4096 + i.val, by omega⟩ : Fin 196608)) = (planes x (ix3 t k i) : EReal) := by
  refine (Ref.rows_at _ x k).trans ?_
  have ht : (t.val * 4096 + i.val) / 4096 = t.val := by omega
  have hi : (t.val * 4096 + i.val) % 4096 = i.val := by omega
  exact congrArg₂ (fun a b => (planes x (ix3 a k b) : EReal)) (Fin.ext ht) (Fin.ext hi)

/-- The class numbers before their last cast, as one row a plane. -/
def idRows (B : IVec S196608 32) : IVec S48x1x4096 32 := fun p => B (ix1 ⟨(p 0).val * 4096 + (p 2).val, by
  have h0 : (p 0).val < 48 := (p 0).isLt
  have h2 : (p 2).val < 4096 := (p 2).isLt
  omega⟩)

theorem cast_at (A : IVec S48x1x4096 32) (r : Fin 196608) :
    shapeCast S196608 A shapeCasts_S48x1x4096_S196608 (ix1 r) = A (ix3 ⟨r.val / 4096, by omega⟩ 0 ⟨r.val % 4096, by omega⟩) := by
  pointwise

theorem idRows_at (B : IVec S196608 32) (a : Fin 48) (b : Fin 4096) :
    idRows B (ix3 a 0 b) = B (ix1 ⟨a.val * 4096 + b.val, by omega⟩) := rfl

/-- Casting the rows to one vector gives the numbers back. -/
theorem idRows_cast (B : IVec S196608 32) : shapeCast S196608 (idRows B) shapeCasts_S48x1x4096_S196608 = B := by
  funext p
  obtain ⟨r, rfl⟩ : ∃ r : Fin 196608, p = ix1 r := ⟨p 0, eq_ix1 p⟩
  refine (cast_at (idRows B) r).trans ((idRows_at B _ _).trans ?_)
  have e : (⟨r.val / 4096 * 4096 + r.val % 4096, by omega⟩ : Fin 196608) = r := Fin.ext (by simp only; omega)
  exact congrArg (fun q : Fin 196608 => B (ix1 q)) e

variable (m : (ℓ : Loc nD τ sig) → Buf (Elt Ideal) ℓ) (c : Dev nD)

/-- The first argument. -/
def argX : FVec Ideal S16x255x64x64 .f32 := m ((c : Thread nD τ).loc main_arg0)

/-- The threshold. -/
def argT : FVec Ideal S_ .f32 := m ((c : Thread nD τ).loc main_arg1)

theorem thr_at : (V m c main_v1 : FVec Ideal S1x1 .f32) (ix2 0 0) = (argT m c ix0 : EReal) := by
  rw [Ker.V_v1]
  generalize e : argT m c = T
  unfold argT at e
  rw [e]
  pointwise

theorem planes_eq : (V m c main_v0 : FVec Ideal S48x85x4096 .f32) = planes (argX m c) := Ker.V_v0 m c

variable (hpre : Cert.Pre_class_maxima_finite.fn (F := Ideal) (argX m c) (argT m c) = fun _ => 1#1)

include hpre in
/-- The boxes agree. -/
theorem boxes_eq : (dats m 0 c).arrAt 2 (cfgs 0).N = Ref.boxes (argX m c) (argT m c) := by
  refine Ker.boxesArr m c _ fun t i j => ?_
  rw [thr_at, planes_eq]
  obtain ⟨h0, h1⟩ := Pre.top_real t i (argX m c) (argT m c) hpre
  have h := Ref.boxes_row (argX m c) (argT m c) (⟨t.val * 4096 + i.val, by omega⟩ : Fin 196608)
    (fun k => planes (argX m c) (ix3 t k i)) (rows_plane (argX m c) t i) h0 h1 j
  have e1 : (t.val * 4096 + i.val) / 4096 = t.val := by omega
  have e2 : (t.val * 4096 + i.val) % 4096 = i.val := by omega
  simp only [e1, e2] at h
  exact h

include hpre in
/-- The class numbers agree. -/
theorem ids_eq : shapeCast S196608 ((dats m 0 c).arrAt 3 (cfgs 0).N : IVec S48x1x4096 32) shapeCasts_S48x1x4096_S196608
    = Ref.ids (argX m c) (argT m c) := by
  have h : (dats m 0 c).arrAt 3 (cfgs 0).N = idRows (Ref.ids (argX m c) (argT m c)) := by
    refine Ker.idsArr m c _ fun t i => ?_
    rw [thr_at, planes_eq]
    obtain ⟨h0, h1⟩ := Pre.top_real t i (argX m c) (argT m c) hpre
    obtain ⟨k, hk, hlt⟩ := Soft.exists_first h0
    exact ⟨k, hk, hlt, Ref.ids_row (argX m c) (argT m c) (⟨t.val * 4096 + i.val, by omega⟩ : Fin 196608)
      (fun k => planes (argX m c) (ix3 t k i)) (rows_plane (argX m c) t i) h0 h1 k hk hlt⟩
  rw [h, idRows_cast]

end Cert.Proof.Eqn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_class_maxima_finite
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.ShloMosaic.StableHlo Idealize.SL.Sem

/-- The kernel's two results equal the reference's wherever the greatest class score of every cell is real. -/
theorem value : Cert.algebraic_KernelIdeal_ReferenceIdeal_pre_class_maxima_finite := by
  intro m g m' g' hpre hargs
  refine ⟨fun c => Ref.boxes (Eqn.argX m c) (Eqn.argT m c), fun c => Ref.ids (Eqn.argX m c) (Eqn.argT m c), ?_, ?_⟩
  · refine (θ_run _ _ _).mono ?_ (θ_run_and (Ker.run m g) (Cert.KernelIdeal.Gen.unchanged m g))
    intro r hr c
    exact ⟨(hr.1 c).1.trans (Eqn.boxes_eq m c (hpre c)), (hr.1 c).2.trans (Eqn.ids_eq m c (hpre c)), (hr.2 c).1, (hr.2 c).2⟩
  · refine (θ_run _ _ _).mono ?_ (Ref.run_main m' g')
    intro r hr c
    have hx : launchContents m' c (Proc.devRef .tc Cert.ReferenceIdeal.main_arg0) = Eqn.argX m c := (hargs c).1
    have ht : launchContents m' c (Proc.devRef .tc Cert.ReferenceIdeal.main_arg1) = Eqn.argT m c := (hargs c).2
    refine ⟨(hr c _).trans ((Ref.boxes_eq _).trans ?_), (hr c _).trans ((Ref.ids_eq _).trans ?_),
      (hr c _).trans (Ref.arg0_eq _), (hr c _).trans (Ref.arg1_eq _)⟩
    · rw [hx, ht]
    · rw [hx, ht]

theorem claim : Cert.Claim := ⟨Cert.Kernel.Gen.facts, Cert.KernelIdeal.Gen.facts, Cert.ReferenceIdeal.Gen.facts, Cert.Pre_class_maxima_finite.Gen.facts,
  fun m g _ => Cert.Kernel.Gen.frame m g,
  fun m g _ => Cert.KernelIdeal.Gen.frame m g,
  fun m g _ => Cert.KernelIdeal.Gen.frame m g,
  Ref.frame,
  fun m g _ => Ref.frame m g trivial,
  trivial,
  value⟩

end Cert.Proof

end
